-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 4096]⟩ ⟨2, ![4096, 4096]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048x4096 : Shape := ⟨2, ![2048, 4096]⟩
abbrev S1024x4096 : Shape := ⟨2, ![1024, 4096]⟩
abbrev S512x2048 : Shape := ⟨2, ![512, 2048]⟩
abbrev S3x1024x2048 : Shape := ⟨3, ![3, 1024, 2048]⟩
abbrev S2048x512 : Shape := ⟨2, ![2048, 512]⟩
abbrev S2x8x1024x512 : Shape := ⟨4, ![2, 8, 1024, 512]⟩
abbrev S_ : Shape := ⟨0, ![]⟩
abbrev S8 : Shape := ⟨1, ![8]⟩
abbrev S3x8 : Shape := ⟨2, ![3, 8]⟩
abbrev S2x8 : Shape := ⟨2, ![2, 8]⟩
abbrev S1x512x2048 : Shape := ⟨3, ![1, 512, 2048]⟩
abbrev S1024x512 : Shape := ⟨2, ![1024, 512]⟩
abbrev S1x1024x2048 : Shape := ⟨3, ![1, 1024, 2048]⟩
abbrev S1024x2048 : Shape := ⟨2, ![1024, 2048]⟩
abbrev S1x1x1024x512 : Shape := ⟨4, ![1, 1, 1024, 512]⟩
abbrev S1x1 : Shape := ⟨2, ![1, 1]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S1024x4096, .bf16⟩
  | .local _ .vmem, ⟨0, _⟩ => ⟨S512x2048, .f32⟩
  | .local _ .vmem, ⟨1, _⟩ => ⟨S3x1024x2048, .bf16⟩
  | .local _ .vmem, ⟨2, _⟩ => ⟨S2048x512, .f32⟩
  | .local _ .vmem, ⟨3, _⟩ => ⟨S2048x4096, .bf16⟩
  | .local _ .vmem, ⟨4, _⟩ => ⟨S2x8x1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 17 58 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 16

abbrev nD : Nat := 4
abbrev τ : Topo := Topo.v7x

variable {F : FTy → Type} [FloatOps F]

abbrev grid0 : Pipeline.Grid := .none

def k0_off1 (d0 : Dev nD) (c0_i32_37 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_14 : BitVec 32 := 4#32
  let v26 : BitVec 32 := Scalar.addi v2 c4_i32_14
  let c1_i32_15 : BitVec 32 := 1#32
  let v27 : BitVec 32 := Scalar.subi v26 c1_i32_15
  let c4_i32_16 : BitVec 32 := 4#32
  let c0_i32_17 : BitVec 32 := 0#32
  let v28 : BitVec 1 := Scalar.cmpi .eq c4_i32_16 c0_i32_17
  let c1_i32_18 : BitVec 32 := 1#32
  let v29 : BitVec 32 := Scalar.select v28 c1_i32_18 c4_i32_16
  let v30 : BitVec 32 := Scalar.remsi v27 v29
  let c0_i32_20 : BitVec 32 := 0#32
  let v32 : BitVec 1 := Scalar.cmpi .slt v30 c0_i32_20
  let c0_i32_21 : BitVec 32 := 0#32
  let v33 : BitVec 1 := Scalar.cmpi .slt v29 c0_i32_21
  let v34 : BitVec 1 := Scalar.xori v32 v33
  let c0_i32_19 : BitVec 32 := 0#32
  let v31 : BitVec 1 := Scalar.cmpi .ne v30 c0_i32_19
  let v35 : BitVec 1 := Scalar.andi v34 v31
  let v36 : BitVec 32 := Scalar.addi v30 v29
  let v37 : BitVec 32 := Scalar.select v35 v36 v30
  let c1024_i32 : BitVec 32 := 1024#32
  let v62 : BitVec 32 := Scalar.muli v37 c1024_i32
  let v63 : BitVec 32 := Scalar.addi v62 c0_i32_37
  let c0_i32_38 : BitVec 32 := 0#32
  ![v63.toNat, 0]
def k0_off2 (d0 : Dev nD) (c1_i32_22 : BitVec 32) (c0_i32_56 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v38 : BitVec 32 := Scalar.addi v2 c1_i32_22
  let c4_i32_23 : BitVec 32 := 4#32
  let c0_i32_24 : BitVec 32 := 0#32
  let v39 : BitVec 1 := Scalar.cmpi .eq c4_i32_23 c0_i32_24
  let c1_i32_25 : BitVec 32 := 1#32
  let v40 : BitVec 32 := Scalar.select v39 c1_i32_25 c4_i32_23
  let v41 : BitVec 32 := Scalar.remsi v38 v40
  let c0_i32_27 : BitVec 32 := 0#32
  let v43 : BitVec 1 := Scalar.cmpi .slt v41 c0_i32_27
  let c0_i32_28 : BitVec 32 := 0#32
  let v44 : BitVec 1 := Scalar.cmpi .slt v40 c0_i32_28
  let v45 : BitVec 1 := Scalar.xori v43 v44
  let c0_i32_26 : BitVec 32 := 0#32
  let v42 : BitVec 1 := Scalar.cmpi .ne v41 c0_i32_26
  let v46 : BitVec 1 := Scalar.andi v45 v42
  let v47 : BitVec 32 := Scalar.addi v41 v40
  let v48 : BitVec 32 := Scalar.select v46 v47 v41
  let c1024_i32_55 : BitVec 32 := 1024#32
  let v84 : BitVec 32 := Scalar.muli v48 c1024_i32_55
  let v85 : BitVec 32 := Scalar.addi v84 c0_i32_56
  let c0_i32_57 : BitVec 32 := 0#32
  ![v85.toNat, 0]
def k0_dev1 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_59 : BitVec 32 := 1#32
  let v87 : BitVec 32 := Scalar.muli v14 c1_i32_59
  let v88 : BitVec 32 := Scalar.addi c0_i32_60 v87
  v88.toNat
def k0_dev2 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_62 : BitVec 32 := 1#32
  let v89 : BitVec 32 := Scalar.muli v25 c1_i32_62
  let v90 : BitVec 32 := Scalar.addi c0_i32_63 v89
  v90.toNat
def k0_dev3 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_93 : BitVec 32 := 1#32
  let v111 : BitVec 32 := Scalar.muli v25 c1_i32_93
  let v112 : BitVec 32 := Scalar.addi c0_i32_94 v111
  v112.toNat
def k0_dev4 (d0 : Dev nD) : Nat :=
  let c0_i32_151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_150 : BitVec 32 := 1#32
  let v163 : BitVec 32 := Scalar.muli v14 c1_i32_150
  let v164 : BitVec 32 := Scalar.addi c0_i32_151 v163
  v164.toNat
def k0_dev5 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_184 : BitVec 32 := 1#32
  let v193 : BitVec 32 := Scalar.muli v25 c1_i32_184
  let v194 : BitVec 32 := Scalar.addi c0_i32_185 v193
  v194.toNat
def k0_dev6 (d0 : Dev nD) : Nat :=
  let c0_i32_228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_227 : BitVec 32 := 1#32
  let v234 : BitVec 32 := Scalar.muli v14 c1_i32_227
  let v235 : BitVec 32 := Scalar.addi c0_i32_228 v234
  v235.toNat
def k0_dev7 (d0 : Dev nD) : Nat :=
  let c0_i32_269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_268 : BitVec 32 := 1#32
  let v272 : BitVec 32 := Scalar.muli v25 c1_i32_268
  let v273 : BitVec 32 := Scalar.addi c0_i32_269 v272
  v273.toNat
def k0_dev8 (d0 : Dev nD) : Nat :=
  let c0_i32_301 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_300 : BitVec 32 := 1#32
  let v302 : BitVec 32 := Scalar.muli v14 c1_i32_300
  let v303 : BitVec 32 := Scalar.addi c0_i32_301 v302
  v303.toNat
def k0_dev9 (d0 : Dev nD) : Nat :=
  let c0_i32_333 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_332 : BitVec 32 := 1#32
  let v332 : BitVec 32 := Scalar.muli v25 c1_i32_332
  let v333 : BitVec 32 := Scalar.addi c0_i32_333 v332
  v333.toNat
def k0_dev10 (d0 : Dev nD) : Nat :=
  let c0_i32_364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_363 : BitVec 32 := 1#32
  let v361 : BitVec 32 := Scalar.muli v14 c1_i32_363
  let v362 : BitVec 32 := Scalar.addi c0_i32_364 v361
  v362.toNat
def k0_dev11 (d0 : Dev nD) : Nat :=
  let c0_i32_414 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_413 : BitVec 32 := 1#32
  let v399 : BitVec 32 := Scalar.muli v14 c1_i32_413
  let v400 : BitVec 32 := Scalar.addi c0_i32_414 v399
  v400.toNat
def k0_dev12 (d0 : Dev nD) : Nat :=
  let c0_i32_428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_427 : BitVec 32 := 1#32
  let v403 : BitVec 32 := Scalar.muli v25 c1_i32_427
  let v404 : BitVec 32 := Scalar.addi c0_i32_428 v403
  v404.toNat
def k0_dev13 (d0 : Dev nD) : Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_477 : BitVec 32 := 1#32
  let v441 : BitVec 32 := Scalar.muli v25 c1_i32_477
  let v442 : BitVec 32 := Scalar.addi c0_i32_478 v441
  v442.toNat
def k0_dev14 (d0 : Dev nD) : Nat :=
  let c0_i32_492 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_491 : BitVec 32 := 1#32
  let v445 : BitVec 32 := Scalar.muli v14 c1_i32_491
  let v446 : BitVec 32 := Scalar.addi c0_i32_492 v445
  v446.toNat
def k0_dev15 (d0 : Dev nD) : Nat :=
  let c0_i32_542 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_541 : BitVec 32 := 1#32
  let v483 : BitVec 32 := Scalar.muli v14 c1_i32_541
  let v484 : BitVec 32 := Scalar.addi c0_i32_542 v483
  v484.toNat
def k0_dev16 (d0 : Dev nD) : Nat :=
  let c0_i32_556 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_555 : BitVec 32 := 1#32
  let v487 : BitVec 32 := Scalar.muli v25 c1_i32_555
  let v488 : BitVec 32 := Scalar.addi c0_i32_556 v487
  v488.toNat
def k0_dev17 (d0 : Dev nD) : Nat :=
  let c0_i32_606 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_605 : BitVec 32 := 1#32
  let v525 : BitVec 32 := Scalar.muli v25 c1_i32_605
  let v526 : BitVec 32 := Scalar.addi c0_i32_606 v525
  v526.toNat
def k0_dev18 (d0 : Dev nD) : Nat :=
  let c0_i32_620 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_619 : BitVec 32 := 1#32
  let v529 : BitVec 32 := Scalar.muli v14 c1_i32_619
  let v530 : BitVec 32 := Scalar.addi c0_i32_620 v529
  v530.toNat
def k0_dev19 (d0 : Dev nD) : Nat :=
  let c0_i32_670 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_669 : BitVec 32 := 1#32
  let v567 : BitVec 32 := Scalar.muli v14 c1_i32_669
  let v568 : BitVec 32 := Scalar.addi c0_i32_670 v567
  v568.toNat
def k0_dev20 (d0 : Dev nD) : Nat :=
  let c0_i32_684 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_683 : BitVec 32 := 1#32
  let v571 : BitVec 32 := Scalar.muli v25 c1_i32_683
  let v572 : BitVec 32 := Scalar.addi c0_i32_684 v571
  v572.toNat
def k0_dev21 (d0 : Dev nD) : Nat :=
  let c0_i32_734 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_733 : BitVec 32 := 1#32
  let v609 : BitVec 32 := Scalar.muli v25 c1_i32_733
  let v610 : BitVec 32 := Scalar.addi c0_i32_734 v609
  v610.toNat
def k0_dev22 (d0 : Dev nD) : Nat :=
  let c0_i32_748 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_747 : BitVec 32 := 1#32
  let v613 : BitVec 32 := Scalar.muli v14 c1_i32_747
  let v614 : BitVec 32 := Scalar.addi c0_i32_748 v613
  v614.toNat
def k0_dev23 (d0 : Dev nD) : Nat :=
  let c0_i32_798 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_797 : BitVec 32 := 1#32
  let v651 : BitVec 32 := Scalar.muli v14 c1_i32_797
  let v652 : BitVec 32 := Scalar.addi c0_i32_798 v651
  v652.toNat
def k0_dev24 (d0 : Dev nD) : Nat :=
  let c0_i32_812 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_811 : BitVec 32 := 1#32
  let v655 : BitVec 32 := Scalar.muli v25 c1_i32_811
  let v656 : BitVec 32 := Scalar.addi c0_i32_812 v655
  v656.toNat
def k0_dev25 (d0 : Dev nD) : Nat :=
  let c0_i32_862 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_861 : BitVec 32 := 1#32
  let v693 : BitVec 32 := Scalar.muli v25 c1_i32_861
  let v694 : BitVec 32 := Scalar.addi c0_i32_862 v693
  v694.toNat
def k0_dev26 (d0 : Dev nD) : Nat :=
  let c0_i32_876 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_875 : BitVec 32 := 1#32
  let v697 : BitVec 32 := Scalar.muli v14 c1_i32_875
  let v698 : BitVec 32 := Scalar.addi c0_i32_876 v697
  v698.toNat
def k0_off3 (d0 : Dev nD) (c0_i32_882 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_881 : BitVec 32 := 1024#32
  let v707 : BitVec 32 := Scalar.muli v2 c1024_i32_881
  let v708 : BitVec 32 := Scalar.addi v707 c0_i32_882
  let c0_i32_883 : BitVec 32 := 0#32
  ![v708.toNat, 0]
def k0_dev27 (d0 : Dev nD) : Nat :=
  let c0_i32_929 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_928 : BitVec 32 := 1#32
  let v738 : BitVec 32 := Scalar.muli v14 c1_i32_928
  let v739 : BitVec 32 := Scalar.addi c0_i32_929 v738
  v739.toNat
def k0_dev28 (d0 : Dev nD) : Nat :=
  let c0_i32_943 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_942 : BitVec 32 := 1#32
  let v742 : BitVec 32 := Scalar.muli v25 c1_i32_942
  let v743 : BitVec 32 := Scalar.addi c0_i32_943 v742
  v743.toNat
def k0_dev29 (d0 : Dev nD) : Nat :=
  let c0_i32_1004 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1003 : BitVec 32 := 1#32
  let v791 : BitVec 32 := Scalar.muli v25 c1_i32_1003
  let v792 : BitVec 32 := Scalar.addi c0_i32_1004 v791
  v792.toNat
def k0_dev30 (d0 : Dev nD) : Nat :=
  let c0_i32_1018 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1017 : BitVec 32 := 1#32
  let v795 : BitVec 32 := Scalar.muli v14 c1_i32_1017
  let v796 : BitVec 32 := Scalar.addi c0_i32_1018 v795
  v796.toNat
def k0_dev31 (d0 : Dev nD) : Nat :=
  let c0_i32_1076 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1075 : BitVec 32 := 1#32
  let v841 : BitVec 32 := Scalar.muli v14 c1_i32_1075
  let v842 : BitVec 32 := Scalar.addi c0_i32_1076 v841
  v842.toNat
def k0_dev32 (d0 : Dev nD) : Nat :=
  let c0_i32_1090 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1089 : BitVec 32 := 1#32
  let v845 : BitVec 32 := Scalar.muli v25 c1_i32_1089
  let v846 : BitVec 32 := Scalar.addi c0_i32_1090 v845
  v846.toNat
def k0_dev33 (d0 : Dev nD) : Nat :=
  let c0_i32_1140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1139 : BitVec 32 := 1#32
  let v883 : BitVec 32 := Scalar.muli v25 c1_i32_1139
  let v884 : BitVec 32 := Scalar.addi c0_i32_1140 v883
  v884.toNat
def k0_dev34 (d0 : Dev nD) : Nat :=
  let c0_i32_1154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1153 : BitVec 32 := 1#32
  let v887 : BitVec 32 := Scalar.muli v14 c1_i32_1153
  let v888 : BitVec 32 := Scalar.addi c0_i32_1154 v887
  v888.toNat
def k0_dev35 (d0 : Dev nD) : Nat :=
  let c0_i32_1204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1203 : BitVec 32 := 1#32
  let v925 : BitVec 32 := Scalar.muli v14 c1_i32_1203
  let v926 : BitVec 32 := Scalar.addi c0_i32_1204 v925
  v926.toNat
def k0_dev36 (d0 : Dev nD) : Nat :=
  let c0_i32_1218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1217 : BitVec 32 := 1#32
  let v929 : BitVec 32 := Scalar.muli v25 c1_i32_1217
  let v930 : BitVec 32 := Scalar.addi c0_i32_1218 v929
  v930.toNat
def k0_dev37 (d0 : Dev nD) : Nat :=
  let c0_i32_1268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1267 : BitVec 32 := 1#32
  let v967 : BitVec 32 := Scalar.muli v25 c1_i32_1267
  let v968 : BitVec 32 := Scalar.addi c0_i32_1268 v967
  v968.toNat
def k0_dev38 (d0 : Dev nD) : Nat :=
  let c0_i32_1282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1281 : BitVec 32 := 1#32
  let v971 : BitVec 32 := Scalar.muli v14 c1_i32_1281
  let v972 : BitVec 32 := Scalar.addi c0_i32_1282 v971
  v972.toNat
def k0_dev39 (d0 : Dev nD) : Nat :=
  let c0_i32_1332 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1331 : BitVec 32 := 1#32
  let v1009 : BitVec 32 := Scalar.muli v14 c1_i32_1331
  let v1010 : BitVec 32 := Scalar.addi c0_i32_1332 v1009
  v1010.toNat
def k0_dev40 (d0 : Dev nD) : Nat :=
  let c0_i32_1346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1345 : BitVec 32 := 1#32
  let v1013 : BitVec 32 := Scalar.muli v25 c1_i32_1345
  let v1014 : BitVec 32 := Scalar.addi c0_i32_1346 v1013
  v1014.toNat
def k0_dev41 (d0 : Dev nD) : Nat :=
  let c0_i32_1396 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1395 : BitVec 32 := 1#32
  let v1051 : BitVec 32 := Scalar.muli v25 c1_i32_1395
  let v1052 : BitVec 32 := Scalar.addi c0_i32_1396 v1051
  v1052.toNat
def k0_dev42 (d0 : Dev nD) : Nat :=
  let c0_i32_1410 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1409 : BitVec 32 := 1#32
  let v1055 : BitVec 32 := Scalar.muli v14 c1_i32_1409
  let v1056 : BitVec 32 := Scalar.addi c0_i32_1410 v1055
  v1056.toNat
def k0_dev43 (d0 : Dev nD) : Nat :=
  let c0_i32_1857 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1856 : BitVec 32 := 1#32
  let v1353 : BitVec 32 := Scalar.muli v14 c1_i32_1856
  let v1354 : BitVec 32 := Scalar.addi c0_i32_1857 v1353
  v1354.toNat
def k0_dev44 (d0 : Dev nD) : Nat :=
  let c0_i32_1860 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1859 : BitVec 32 := 1#32
  let v1355 : BitVec 32 := Scalar.muli v25 c1_i32_1859
  let v1356 : BitVec 32 := Scalar.addi c0_i32_1860 v1355
  v1356.toNat
-- ==== ReferenceIdeal.lean ====
abbrev S4096x8192 : Shape := ⟨2, ![4096, 8192]⟩
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x4096, .f32⟩
  | .hbm, ⟨2, _⟩ => ⟨S4096x8192, .bf16⟩
  | .hbm, ⟨3, _⟩ => ⟨S8192x4096, .bf16⟩
  | .hbm, ⟨4, _⟩ => ⟨S4096x4096, .f32⟩
  | .hbm, ⟨5, _⟩ => ⟨S4096x4096, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdeal.Prog.lean ====
/- The kernel body written again as a structured program: one definition for each step of a strip or of a fetch,
   over the concrete buffers, with the strip `j` and the hop `h` as variables. Each definition takes the program
   that follows it, so the whole is a plain chain of operations, and the kernel body equals it by computation. -/
module

public import proofs.«01_k».proof.Proof.Gen.KernelIdeal
public import proofs.«01_k».proof.Proof.Gen.KernelIdeal.Points
public import Idealize.ShloMosaic.Lib.Pipeline.Kit
public import Idealize.ShloMosaic.Lib.Pipeline.Regions

@[expose] public section

noncomputable section

namespace Cert.KernelIdealProof

open Idealize.ShloMosaic Idealize.ShloMosaic.TcCoe
open Idealize.SL Idealize.SL.Sem
open Cert.KernelIdeal Cert.KernelIdeal.Gen

variable {F : FTy → Type} [FloatOps F]

/-- Programs of the kernel's core. -/
abbrev PP (F : FTy → Type) [FloatOps F] := Prog (TpuEff nD τ sig (Elt F) Λ₀ .tc) PUnit

/-! ## The buffers -/

abbrev aM : Memref sig .tc .hbm S4096x2048 .f32 := Memref.whole main_arg0
abbrev bM : Memref sig .tc .hbm S2048x4096 .f32 := Memref.whole main_arg1
abbrev oM : Memref sig .tc .hbm S1024x4096 .bf16 := Memref.whole main_v1
abbrev asM : Memref sig .tc .vmem S512x2048 .f32 := Memref.whole cc0_scratch0
abbrev abM : Memref sig .tc .vmem S3x1024x2048 .bf16 := Memref.whole cc0_scratch1
abbrev bsM : Memref sig .tc .vmem S2048x512 .f32 := Memref.whole cc0_scratch2
abbrev bbM : Memref sig .tc .vmem S2048x4096 .bf16 := Memref.whole cc0_scratch3
abbrev cmM : Memref sig .tc .vmem S2x8x1024x512 .bf16 := Memref.whole cc0_scratch4

/-! ## The rectangles -/

theorem cm_inb : ∀ (s : Fin 2) (j : Fin 8), ∀ a, (![s.val, j.val, 0, 0] : Fin 4 → Nat) a + S1x1x1024x512.size a ≤ S2x8x1024x512.size a := by decide
theorem ab_inb : ∀ (s : Fin 3) (h : Fin 2), ∀ a, (![s.val, 512 * h.val, 0] : Fin 3 → Nat) a + S1x512x2048.size a ≤ S3x1024x2048.size a := by decide
theorem ab_inb' : ∀ (s : Fin 3), ∀ a, (![s.val, 0, 0] : Fin 3 → Nat) a + S1x1024x2048.size a ≤ S3x1024x2048.size a := by decide
theorem bb_inb : ∀ (h : Fin 2) (j : Fin 8), ∀ a, (![1024 * h.val, 512 * j.val] : Fin 2 → Nat) a + S1024x512.size a ≤ S2048x4096.size a := by decide
theorem bb_inb' : ∀ (j : Fin 8), ∀ a, (![0, 512 * j.val] : Fin 2 → Nat) a + S2048x512.size a ≤ S2048x4096.size a := by decide
theorem bs_inb : ∀ (h : Fin 2), ∀ a, (![1024 * h.val, 0] : Fin 2 → Nat) a + S1024x512.size a ≤ S2048x512.size a := by decide
theorem as_inb : ∀ a, (![0, 0] : Fin 2 → Nat) a + S512x2048.size a ≤ S512x2048.size a := by decide
theorem o_inb : ∀ (j : Fin 8), ∀ a, (![0, 512 * j.val] : Fin 2 → Nat) a + S1024x512.size a ≤ S1024x4096.size a := by decide
theorem s38_inb : ∀ (h : Fin 3) (j : Fin 8), ∀ a, (![h.val, j.val] : Fin 2 → Nat) a + S1x1.size a ≤ S3x8.size a := by decide
theorem s28_inb : ∀ (h : Fin 2) (j : Fin 8), ∀ a, (![h.val, j.val] : Fin 2 → Nat) a + S1x1.size a ≤ S2x8.size a := by decide
theorem s8_inb : ∀ (j : Fin 8), ∀ a, (![j.val] : Fin 1 → Nat) a + S1.size a ≤ S8.size a := by decide

abbrev cmR (s : Fin 2) (j : Fin 8) : Rect S2x8x1024x512 := Rect.unit (s := S2x8x1024x512) ![s.val, j.val, 0, 0] S1x1x1024x512.size (cm_inb s j)
abbrev abR (s : Fin 3) (h : Fin 2) : Rect S3x1024x2048 := Rect.unit (s := S3x1024x2048) ![s.val, 512 * h.val, 0] S1x512x2048.size (ab_inb s h)
abbrev abR' (s : Fin 3) : Rect S3x1024x2048 := Rect.unit (s := S3x1024x2048) ![s.val, 0, 0] S1x1024x2048.size (ab_inb' s)
abbrev bbR (h : Fin 2) (j : Fin 8) : Rect S2048x4096 := Rect.unit (s := S2048x4096) ![1024 * h.val, 512 * j.val] S1024x512.size (bb_inb h j)
abbrev bbR' (j : Fin 8) : Rect S2048x4096 := Rect.unit (s := S2048x4096) ![0, 512 * j.val] S2048x512.size (bb_inb' j)
abbrev bsR (h : Fin 2) : Rect S2048x512 := Rect.unit (s := S2048x512) ![1024 * h.val, 0] S1024x512.size (bs_inb h)
abbrev asR : Rect S512x2048 := Rect.unit (s := S512x2048) ![0, 0] S512x2048.size as_inb
abbrev oR (j : Fin 8) : Rect S1024x4096 := Rect.unit (s := S1024x4096) ![0, 512 * j.val] S1024x512.size (o_inb j)

theorem cm_words : ∀ (s : Fin 2) (j : Fin 8), (cmR s j).WholeWords (EltTy.packing .bf16) := by decide
theorem cm_packed : ∀ (s : Fin 2) (j : Fin 8), (cmR s j).PackedRows (EltTy.packing .bf16) := by decide
theorem ab_packed : ∀ (s : Fin 3) (h : Fin 2), (abR s h).PackedRows (EltTy.packing .bf16) := by decide
theorem bb_packed : ∀ (h : Fin 2) (j : Fin 8), (bbR h j).PackedRows (EltTy.packing .bf16) := by decide
theorem o_words : ∀ (j : Fin 8), (oR j).WholeWords (EltTy.packing .bf16) := by decide

/-- The block of rows of `A` a fetch reads: `k = 0, 1, 2, 3` names the chunk (one behind, one ahead, two ahead, own),
    `h` its half. -/
def offA (d0 : Dev nD) (k : Fin 4) (h : Fin 2) : Fin 2 → Nat := match k with
  | 0 => k0_off1 d0 (BitVec.ofNat 32 (512 * h.val))
  | 1 => k0_off2 d0 1#32 (BitVec.ofNat 32 (512 * h.val))
  | 2 => k0_off2 d0 2#32 (BitVec.ofNat 32 (512 * h.val))
  | 3 => k0_off3 d0 (BitVec.ofNat 32 (512 * h.val))

theorem offA_inb (d0 : Dev nD) (k : Fin 4) (h : Fin 2) : ∀ a, offA d0 k h a + S512x2048.size a ≤ S4096x2048.size a :=
  match k with
  | 0 => k0_off1_inb d0 h
  | 1 => k0_off2_inb d0 0 h
  | 2 => k0_off2_inb d0 1 h
  | 3 => k0_off3_inb d0 h

abbrev aS (d0 : Dev nD) (k : Fin 4) (h : Fin 2) : Memref sig .tc .hbm S512x2048 .f32 :=
  aM.slice (Rect.unit (s := S4096x2048) (offA d0 k h) S512x2048.size (offA_inb d0 k h)) (fun _ => rfl)
abbrev bS (j : Fin 8) : Memref sig .tc .hbm S2048x512 .f32 := bM.slice (bbR' j) (fun _ => rfl)
abbrev oS (j : Fin 8) : Memref sig .tc .hbm S1024x512 .bf16 := oM.slice (oR j) (fun _ => rfl)
abbrev cmS (s : Fin 2) (j : Fin 8) : Memref sig .tc .vmem S1024x512 .bf16 :=
  (cmM.slice (cmR s j) (fun _ => rfl)).squeeze S1024x512 squeezes_S1x1x1024x512_S1024x512

theorem cm_wx (s : Fin 2) (j : Fin 8) : (cmS s j).view.WordExact :=
  (((Memref.isWhole_whole cc0_scratch4).wordExact_slice rfl _ (cm_words s j)).reshape _ _)

/-! ## The semaphores -/

abbrev sendS (h : Fin 3) (j : Fin 8) : DmaSem sig := ((cc0_scratch8.slice (Rect.unit (s := S3x8) ![h.val, j.val] S1x1.size (s38_inb h j))).squeeze S_ squeezes_S1x1_S_).sem
abbrev recvS (h : Fin 3) (j : Fin 8) : DmaSem sig := ((cc0_scratch9.slice (Rect.unit (s := S3x8) ![h.val, j.val] S1x1.size (s38_inb h j))).squeeze S_ squeezes_S1x1_S_).sem
abbrev credS (h : Fin 2) (j : Fin 8) : Sem sig := ((cc0_scratch10.slice (Rect.unit (s := S2x8) ![h.val, j.val] S1x1.size (s28_inb h j))).squeeze S_ squeezes_S1x1_S_).sem
abbrev outSm (j : Fin 8) : DmaSem sig := ((cc0_scratch7.slice (Rect.unit (s := S8) ![j.val] S1.size (s8_inb j))).squeeze S_ squeezes_S1_S_).sem
abbrev barS : Sem sig := (SemArray.scalar (sig.barrier 0 rfl) : Sems sig S_).sem

/-! ## The devices a core addresses -/

/-- The device a strip's copy of hop `h` goes to, as the program computes it. -/
def sendDevs : List (Dev nD → Nat) :=
  [k0_dev3, k0_dev4, k0_dev5, k0_dev6, k0_dev7, k0_dev8, k0_dev9, k0_dev10,
   k0_dev12, k0_dev14, k0_dev16, k0_dev18, k0_dev20, k0_dev22, k0_dev24, k0_dev26,
   k0_dev28, k0_dev30, k0_dev32, k0_dev34, k0_dev36, k0_dev38, k0_dev40, k0_dev42]

/-- The device told that a strip's receive buffer of hop `h` is free, as the program computes it. -/
def credDevs : List (Dev nD → Nat) :=
  [k0_dev11, k0_dev13, k0_dev15, k0_dev17, k0_dev19, k0_dev21, k0_dev23, k0_dev25,
   k0_dev27, k0_dev29, k0_dev31, k0_dev33, k0_dev35, k0_dev37, k0_dev39, k0_dev41]

def sendN (d0 : Dev nD) (h : Fin 3) (j : Fin 8) : Nat := (sendDevs.getD (8 * h.val + j.val) (fun _ => 0)) d0
def credN (d0 : Dev nD) (h : Fin 2) (j : Fin 8) : Nat := (credDevs.getD (8 * h.val + j.val) (fun _ => 0)) d0

theorem sendN_eq : ∀ (d0 : Dev nD) (h : Fin 3) (j : Fin 8), sendN d0 h j = if j.val % 2 = 0 then (d0.val + 1) % 4 else (d0.val + 3) % 4 := by decide +kernel
theorem credN_eq : ∀ (d0 : Dev nD) (h : Fin 2) (j : Fin 8), credN d0 h j = if j.val % 2 = 0 then (d0.val + 3) % 4 else (d0.val + 1) % 4 := by decide +kernel
theorem sendN_lt : ∀ (d0 : Dev nD) (h : Fin 3) (j : Fin 8), sendN d0 h j < nD := by decide +kernel
theorem credN_lt : ∀ (d0 : Dev nD) (h : Fin 2) (j : Fin 8), credN d0 h j < nD := by decide +kernel

/-! ## The payloads -/

/-- Half a chunk of `A`, rounded to bf16, as a plane of the buffer it is stored to. -/
def payA (v : Vec F S512x2048 .f32) : FVec F S1x512x2048 .bf16 :=
  shapeCast S1x512x2048 (truncf .bf16 v bitsLt_bf16_f32) shapeCasts_S512x2048_S1x512x2048
/-- Half a strip of `B`, rounded to bf16. -/
def payB (v : Vec F S1024x512 .f32) : FVec F S1024x512 .bf16 :=
  shapeCast S1024x512 (truncf .bf16 v bitsLt_bf16_f32) shapeCasts_S1024x512_S1024x512
/-- The product of a chunk and a strip. -/
def dotV (a : Vec F S1x1024x2048 .bf16) (b : Vec F S2048x512 .bf16) : FVec F S1024x512 .f32 :=
  matmul dot_S1024x2048_S2048x512_S1024x512_1_0_0_1_n_n none (shapeCast S1024x2048 a shapeCasts_S1x1024x2048_S1024x2048) b (constant S1024x512 .f32 0x00000000#32)
/-- The first partial sum of a strip, rounded, as a plane of the strip buffer. -/
def pay0 (a : Vec F S1x1024x2048 .bf16) (b : Vec F S2048x512 .bf16) : FVec F S1x1x1024x512 .bf16 :=
  shapeCast S1x1x1024x512 (truncf .bf16 (dotV a b) bitsLt_bf16_f32) shapeCasts_S1024x512_S1x1x1024x512
/-- The next partial sum of a strip: the received one and this device's product, rounded. -/
def payH (a : Vec F S1x1024x2048 .bf16) (b : Vec F S2048x512 .bf16) (r : Vec F S1x1x1024x512 .bf16) : FVec F S1x1x1024x512 .bf16 :=
  shapeCast S1x1x1024x512 (truncf .bf16 (addf (extf .f32 (shapeCast S1024x512 r shapeCasts_S1x1x1024x512_S1024x512) bitsLt_bf16_f32) (dotV a b)) bitsLt_bf16_f32) shapeCasts_S1024x512_S1x1x1024x512

/-! ## The steps -/

def fetchB (j : Fin 8) (k : PP F) : PP F :=
  .op (.enqueueDma (bS j) (.here bsM) (.dma cc0_scratch6.sem) (View.wordExact_bits rfl) (Memref.isWhole_whole _).wordExact ⟨Or.inl rfl, trivial⟩) fun _ => k
def waitB (j : Fin 8) (k : PP F) : PP F :=
  .op (.waitDma2 cc0_scratch6.sem (bS j) bsM (View.wordExact_bits rfl) (Memref.isWhole_whole _).wordExact) fun _ => k
def fetchA (d0 : Dev nD) (c : Fin 4) (h : Fin 2) (k : PP F) : PP F :=
  .op (.enqueueDma (aS d0 c h) (.here asM) (.dma cc0_scratch5.sem) (View.wordExact_bits rfl) (Memref.isWhole_whole _).wordExact ⟨Or.inl rfl, trivial⟩) fun _ => k
def waitA (d0 : Dev nD) (c : Fin 4) (h : Fin 2) (k : PP F) : PP F :=
  .op (.waitDma2 cc0_scratch5.sem (aS d0 c h) asM (View.wordExact_bits rfl) (Memref.isWhole_whole _).wordExact) fun _ => k

def convA (s : Fin 3) (h : Fin 2) (k : PP F) : PP F :=
  .op (.load asM asR.toLoadRect (View.loadsAt_vmem h_S512x2048)) fun v =>
  .op (.load abM (abR s h).toLoadRect (View.loadsAt_vmem h_S1x512x2048)) fun _ =>
  .op (.store abM (abR s h) (payA v) Finset.univ (View.stores_vmem h_S1x512x2048 ((Memref.isWhole_whole _).storeExact_slice rfl _ (ab_packed s h)) (fun _ => rfl)) (.inl rfl)) fun _ => k
def convB (h : Fin 2) (j : Fin 8) (k : PP F) : PP F :=
  .op (.load bsM (bsR h).toLoadRect (View.loadsAt_vmem h_S1024x512)) fun v =>
  .op (.load bbM (bbR h j).toLoadRect (View.loadsAt_vmem h_S1024x512)) fun _ =>
  .op (.store bbM (bbR h j) (payB v) Finset.univ (View.stores_vmem h_S1024x512 ((Memref.isWhole_whole _).storeExact_slice rfl _ (bb_packed h j)) (fun _ => rfl)) (.inl rfl)) fun _ => k

/-- Load a chunk and a strip. -/
def loadAB (s : Fin 3) (j : Fin 8) (k : Vec F S1x1024x2048 .bf16 → Vec F S2048x512 .bf16 → PP F) : PP F :=
  .op (.load abM (abR' s).toLoadRect (View.loadsAt_vmem h_S1x1024x2048)) fun a =>
  .op (.load bbM (bbR' j).toLoadRect (View.loadsAt_vmem h_S2048x512)) fun b => k a b
/-- Overwrite strip `j` of side `s` of the strip buffer. -/
def storeC (s : Fin 2) (j : Fin 8) (v : FVec F S1x1x1024x512 .bf16) (k : PP F) : PP F :=
  .op (.load cmM (cmR s j).toLoadRect (View.loadsAt_vmem h_S1x1x1024x512)) fun _ =>
  .op (.store cmM (cmR s j) v Finset.univ (View.stores_vmem h_S1x1x1024x512 ((Memref.isWhole_whole _).storeExact_slice rfl _ (cm_packed s j)) (fun _ => rfl)) (.inl rfl)) fun _ => k

/-- Send strip `j` of side `s` to side `s'` on the next device of its direction. -/
def sendC (d0 : Dev nD) (h : Fin 3) (s s' : Fin 2) (j : Fin 8) (k : PP F) : PP F :=
  .op (.enqueueDma (cmS s j) (.remote (Dev.tc (⟨sendN d0 h j, sendN_lt d0 h j⟩ : Dev nD)) (cmS s' j) (.dma (sendS h j))) (.dma (recvS h j)) (cm_wx s j) (cm_wx s' j) ⟨⟨rfl, Or.inl rfl⟩, trivial⟩) fun _ => k
def waitRecv (h : Fin 3) (s s' : Fin 2) (j : Fin 8) (k : PP F) : PP F :=
  .op (.waitDma2 (recvS h j) (cmS s j) (cmS s' j) (cm_wx s j) (cm_wx s' j)) fun _ => k
def waitSend (h : Fin 3) (s s' : Fin 2) (j : Fin 8) (k : PP F) : PP F :=
  .op (.waitDma2 (sendS h j) (cmS s' j) (cmS s j) (cm_wx s' j) (cm_wx s j)) fun _ => k
def sigCred (d0 : Dev nD) (h : Fin 2) (j : Fin 8) (k : PP F) : PP F :=
  .op (.semSignal ((⟨credN d0 h j, credN_lt d0 h j⟩ : Dev nD), .tc) (credS h j) (1#32 : BitVec 32).toInt) fun _ => k
def waitCred (h : Fin 2) (j : Fin 8) (k : PP F) : PP F :=
  .op (.semWait (credS h j) (1#32 : BitVec 32).toInt) fun _ => k

/-- One strip of the first stage: finish its fetch, convert it, start the next fetch, form the first partial sum and send it. -/
def stepA (d0 : Dev nD) (sl : Fin 3) (j : Fin 8) (next : PP F → PP F) (k : PP F) : PP F :=
  waitB j <| convB ⟨0, by decide⟩ j <| convB ⟨1, by decide⟩ j <| next <|
  loadAB sl j fun a b => storeC ⟨0, by decide⟩ j (pay0 a b) <|
  sendC d0 ⟨0, by decide⟩ ⟨0, by decide⟩ ⟨1, by decide⟩ j k

/-- The part of a hop common to all: form the product, receive, add, and finish the send of the hop. -/
def recvAdd (h : Fin 3) (s s' : Fin 2) (sl : Fin 3) (j : Fin 8) (k : PP F) : PP F :=
  loadAB sl j fun a b => waitRecv h s s' j <|
  .op (.load cmM (cmR s' j).toLoadRect (View.loadsAt_vmem h_S1x1x1024x512)) fun r =>
  storeC s' j (payH a b r) k

/-- One strip of hop `h < 2`. -/
def hop (d0 : Dev nD) (h : Fin 2) (h3 h3' : Fin 3) (s s' : Fin 2) (sl : Fin 3) (j : Fin 8) (k : PP F) : PP F :=
  recvAdd h3 s s' sl j <| waitSend h3 s s' j <| sigCred d0 h j <| waitCred h j <| sendC d0 h3' s' s j k

/-- Start the copy of a finished strip to the output. -/
def startOut (j : Fin 8) (k : PP F) : PP F :=
  .op (.enqueueDma (cmS ⟨1, by decide⟩ j) (.here (oS j)) (.dma (outSm j)) (cm_wx ⟨1, by decide⟩ j) ((Memref.isWhole_whole main_v1).wordExact_slice rfl _ (o_words j)) ⟨Or.inl rfl, trivial⟩) fun _ => k
def waitOut (j : Fin 8) (k : PP F) : PP F :=
  .op (.waitDma2 (outSm j) (cmS ⟨1, by decide⟩ j) (oS j) (cm_wx ⟨1, by decide⟩ j) ((Memref.isWhole_whole main_v1).wordExact_slice rfl _ (o_words j))) fun _ => k
/-- One strip of the last hop. -/
def lastHop (j : Fin 8) (k : PP F) : PP F :=
  recvAdd ⟨2, by decide⟩ ⟨0, by decide⟩ ⟨1, by decide⟩ ⟨2, by decide⟩ j <| startOut j <| waitSend ⟨2, by decide⟩ ⟨0, by decide⟩ ⟨1, by decide⟩ j k

/-- Signal both neighbours and wait for both. -/
def barrierP (l r : Dev nD) (k : PP F) : PP F :=
  .op (.semSignal (l, .tc) barS (1#32 : BitVec 32).toInt) fun _ =>
  .op (.semSignal (r, .tc) barS (1#32 : BitVec 32).toInt) fun _ =>
  .op (.semWait barS (2#32 : BitVec 32).toInt) fun _ => k

/-- A step for each strip in turn. -/
def forJ (f : Fin 8 → PP F → PP F) (k : PP F) : PP F :=
  f ⟨0, by decide⟩ <| f ⟨1, by decide⟩ <| f ⟨2, by decide⟩ <| f ⟨3, by decide⟩ <| f ⟨4, by decide⟩ <| f ⟨5, by decide⟩ <| f ⟨6, by decide⟩ <| f ⟨7, by decide⟩ k

/-- The slot of the chunk buffer that holds strip `j`'s chunk at stage 0 (`slot0`) and 2 (`slot2`). -/
def slot0 (j : Fin 8) : Fin 3 := ⟨j.val % 2, by omega⟩
def slot2 (j : Fin 8) : Fin 3 := ⟨1 - j.val % 2, by omega⟩

/-- What the first stage does after its strip `j`: the fetches of two more chunks, in pieces. -/
def extraA (d0 : Dev nD) (j : Fin 8) (k : PP F) : PP F := match j with
  | 0 => waitA d0 1 ⟨0, by decide⟩ <| convA ⟨1, by decide⟩ ⟨0, by decide⟩ <| fetchA d0 1 ⟨1, by decide⟩ <|
      waitA d0 1 ⟨1, by decide⟩ <| convA ⟨1, by decide⟩ ⟨1, by decide⟩ <| fetchA d0 2 ⟨0, by decide⟩ k
  | 2 => waitA d0 2 ⟨0, by decide⟩ <| convA ⟨2, by decide⟩ ⟨0, by decide⟩ <| fetchA d0 2 ⟨1, by decide⟩ k
  | 3 => waitA d0 2 ⟨1, by decide⟩ <| convA ⟨2, by decide⟩ ⟨1, by decide⟩ k
  | _ => k

/-- The next fetch of a strip, where there is one. -/
def nextB (j : Fin 8) (k : PP F) : PP F := if h : j.val + 1 < 8 then fetchB ⟨j.val + 1, h⟩ k else k

/-- What the second hop does after its strip `j`: the own chunk, in pieces. -/
def extraH (d0 : Dev nD) (j : Fin 8) (k : PP F) : PP F := match j with
  | 0 => waitA d0 3 ⟨0, by decide⟩ <| convA ⟨2, by decide⟩ ⟨0, by decide⟩ <| fetchA d0 3 ⟨1, by decide⟩ k
  | 1 => waitA d0 3 ⟨1, by decide⟩ <| convA ⟨2, by decide⟩ ⟨1, by decide⟩ k
  | _ => k

/-- Everything after the device's identity is read. -/
def bodyD (d0 : Dev nD) : PP F :=
  fetchB ⟨0, by decide⟩ <|
  fetchA d0 0 ⟨0, by decide⟩ <| waitA d0 0 ⟨0, by decide⟩ <| convA ⟨0, by decide⟩ ⟨0, by decide⟩ <|
  fetchA d0 0 ⟨1, by decide⟩ <| waitA d0 0 ⟨1, by decide⟩ <| convA ⟨0, by decide⟩ ⟨1, by decide⟩ <|
  fetchA d0 1 ⟨0, by decide⟩ <|
  barrierP ⟨k0_dev1 d0, k0_dev1_lt d0⟩ ⟨k0_dev2 d0, k0_dev2_lt d0⟩ <|
  forJ (fun j k => stepA d0 (slot0 j) j (nextB j) (extraA d0 j k)) <|
  forJ (fun j k => hop d0 ⟨0, by decide⟩ ⟨0, by decide⟩ ⟨1, by decide⟩ ⟨0, by decide⟩ ⟨1, by decide⟩ ⟨2, by decide⟩ j k) <|
  fetchA d0 3 ⟨0, by decide⟩ <|
  forJ (fun j k => hop d0 ⟨1, by decide⟩ ⟨1, by decide⟩ ⟨2, by decide⟩ ⟨1, by decide⟩ ⟨0, by decide⟩ (slot2 j) j (extraH d0 j k)) <|
  forJ (fun j k => lastHop j k) <|
  forJ (fun j k => waitOut j k) <|
  barrierP ⟨k0_dev43 d0, k0_dev43_lt d0⟩ ⟨k0_dev44 d0, k0_dev44_lt d0⟩ <|
  .ret ⟨⟩

/-- The kernel body as the structured program. -/
def bodyP : PP F := .op .deviceId fun d0 => bodyD d0

set_option maxRecDepth 65536 in
/-- The kernel body at the call's one point is the structured program. -/
theorem bodyAt0_eq (t : Fin cfg0.N) : (bodyAt0 t : PP F) = bodyP := by chain_rfl

end Cert.KernelIdealProof
-- ==== Proof.KernelIdeal.Common.lean ====
/- The protocol of the kernel: the ring of devices, the semaphore cells, the values the buffers carry, what each
   signal and copy hands over (the schedule), what a core owes at each point, and the levels that order the waits. -/
module

public import proofs.«01_k».proof.Proof.KernelIdeal.Prog
public import Idealize.ShloMosaic.Lib.Pipeline.Launch
public import Idealize.ShloMosaic.Lib.Transfers
public import Idealize.ShloMosaic.Lib.Tactic
public import Mathlib.Algebra.BigOperators.Intervals
public import Mathlib.Tactic.IntervalCases

@[expose] public section

noncomputable section

namespace Cert.KernelIdealProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra: the pipeline library's copy, the rounds of the cells, the flights of local copies -/

abbrev UB : Type := URounds (GSem nD τ sig) Bool
abbrev UU : Type := UR sig nD τ × (UB × Counters)

local notation "𝕄" => MT nD τ sig Bool (Elt F) ℕ UU ℕ

abbrev EP : Emb (UR sig nD τ) (MT nD τ sig Bool (Elt F) ℕ UU ℕ) := embL
abbrev ER : Emb UB (MT nD τ sig Bool (Elt F) ℕ UU ℕ) := (Emb.inl : Emb UB (UB × Counters)).trans embR
abbrev EC : UEmb Counters (MT nD τ sig Bool (Elt F) ℕ UU ℕ) := countersEmb

variable (m : (ℓ : Loc nD τ sig) → Buf (Elt F) ℓ)

/-! ## The ring -/

set_option backward.proofsInPublic true in
/-- The device after `c` on the ring. -/
def nxt (c : Dev nD) : Dev nD := ⟨(c.val + 1) % 4, Nat.mod_lt _ (by decide)⟩
set_option backward.proofsInPublic true in
/-- The device before `c`. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- Whether a strip travels forward. -/
def ev (j : Fin 8) : Bool := j.val % 2 == 0
/-- The device strip `j` is sent to, and the device it comes from. -/
def dn (j : Fin 8) (c : Dev nD) : Dev nD := if ev j then nxt c else prv c
def up (j : Fin 8) (c : Dev nD) : Dev nD := if ev j then prv c else nxt c

theorem up_dn (j : Fin 8) (c : Dev nD) : up j (dn j c) = c := by revert c; revert j; decide
theorem dn_up (j : Fin 8) (c : Dev nD) : dn j (up j c) = c := by revert c; revert j; decide

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev43_eq (c : Dev nD) : (⟨k0_dev43 c, k0_dev43_lt c⟩ : Dev nD) = prv c := by revert c; decide +kernel
theorem dev44_eq (c : Dev nD) : (⟨k0_dev44 c, k0_dev44_lt c⟩ : Dev nD) = nxt c := by revert c; decide +kernel
theorem sendDev_eq (c : Dev nD) (h : Fin 3) (j : Fin 8) : (⟨sendN c h j, sendN_lt c h j⟩ : Dev nD) = dn j c := by
  apply Fin.ext; show sendN c h j = _; rw [sendN_eq]; revert c; revert j; decide
theorem credDev_eq (c : Dev nD) (h : Fin 2) (j : Fin 8) : (⟨credN c h j, credN_lt c h j⟩ : Dev nD) = up j c := by
  apply Fin.ext; show credN c h j = _; rw [credN_eq]; revert c; revert j; decide

/-! ## The cells -/

/-- The semaphores shared by devices: the barrier, and per hop and strip the send, receive and credit semaphores. -/
inductive CK where
  | bar : CK
  | send : Fin 3 → Fin 8 → CK
  | recv : Fin 3 → Fin 8 → CK
  | cred : Fin 2 → Fin 8 → CK
  deriving DecidableEq

/-- The shared semaphores by kind. -/
def ckEquiv : (Unit ⊕ (Fin 3 × Fin 8)) ⊕ ((Fin 3 × Fin 8) ⊕ (Fin 2 × Fin 8)) ≃ CK where
  toFun x := match x with
    | .inl (.inl _) => .bar
    | .inl (.inr p) => .send p.1 p.2
    | .inr (.inl p) => .recv p.1 p.2
    | .inr (.inr p) => .cred p.1 p.2
  invFun k := match k with
    | .bar => .inl (.inl ())
    | .send h j => .inl (.inr (h, j))
    | .recv h j => .inr (.inl (h, j))
    | .cred h j => .inr (.inr (h, j))
  left_inv x := by rcases x with (_ | _) | (_ | _) <;> rfl
  right_inv k := by cases k <;> rfl

instance : Fintype CK := Fintype.ofEquiv _ ckEquiv

abbrev csem : CK → SemLoc sig
  | .bar => .reg barS
  | .send h j => .dma (sendS h j)
  | .recv h j => .dma (recvS h j)
  | .cred h j => .reg (credS h j)

abbrev cell (c : Dev nD) (k : CK) : GSem nD τ sig := ((c : Thread nD τ), csem k)
abbrev kcell (p : Dev nD × CK) : GSem nD τ sig := cell p.1 p.2

/-- The shared semaphore a semaphore number names, by arithmetic on the number. -/
def ckOf : SemLoc sig → Option CK
  | .reg s => if s.val = 16 then some .bar else if h : s.val / 8 < 2 then some (.cred ⟨s.val / 8, h⟩ ⟨s.val % 8, Nat.mod_lt _ (by decide)⟩) else none
  | .dma s => if h : (s.val - 10) / 8 < 3 ∧ 10 ≤ s.val then some (.send ⟨(s.val - 10) / 8, h.1⟩ ⟨(s.val - 10) % 8, Nat.mod_lt _ (by decide)⟩)
      else if h : (s.val - 34) / 8 < 3 ∧ 34 ≤ s.val then some (.recv ⟨(s.val - 34) / 8, h.1⟩ ⟨(s.val - 34) % 8, Nat.mod_lt _ (by decide)⟩) else none

theorem ckOf_bar : ckOf (.reg barS) = some .bar := by decide
theorem ckOf_send : ∀ h j, ckOf (.dma (sendS h j)) = some (.send h j) := by decide +kernel
theorem ckOf_recv : ∀ h j, ckOf (.dma (recvS h j)) = some (.recv h j) := by decide +kernel
theorem ckOf_cred : ∀ h j, ckOf (.reg (credS h j)) = some (.cred h j) := by decide +kernel
theorem ckOf_csem : ∀ k, ckOf (csem k) = some k
  | .bar => ckOf_bar
  | .send h j => ckOf_send h j
  | .recv h j => ckOf_recv h j
  | .cred h j => ckOf_cred h j
theorem ckOf_a : ckOf (.dma cc0_scratch5.sem) = none := by decide +kernel
theorem ckOf_b : ckOf (.dma cc0_scratch6.sem) = none := by decide +kernel
theorem ckOf_out : ∀ j, ckOf (.dma (outSm j)) = none := by decide +kernel

theorem csem_injective : Function.Injective csem := fun a b h => by
  have := congrArg ckOf h; rw [ckOf_csem, ckOf_csem] at this; exact Option.some.inj this
theorem kcell_injective : Function.Injective kcell := fun ⟨c, k⟩ ⟨c', k'⟩ h => by
  have h1 : c = c' := congrArg (fun g : GSem nD τ sig => g.1.1) h
  have h2 : k = k' := csem_injective (congrArg (fun g : GSem nD τ sig => g.2) h)
  rw [h1, h2]

/-- The credit of a strip's copy. -/
abbrev N : ℕ := (cmS 0 0).view.dmaCredit
theorem N_pos : 0 < N := View.dmaCredit_pos _ (by decide)

/-! ## The values -/

/-- The row block of `A` a chunk is: `k = 0, 1, 2, 3` is the one behind, ahead, two ahead, own. -/
def rowA (c : Dev nD) (k : Fin 4) : Fin 4 := match k with
  | 0 => ⟨(c.val + 3) % 4, Nat.mod_lt _ (by decide)⟩
  | 1 => ⟨(c.val + 1) % 4, Nat.mod_lt _ (by decide)⟩
  | 2 => ⟨(c.val + 2) % 4, Nat.mod_lt _ (by decide)⟩
  | 3 => ⟨c.val % 4, Nat.mod_lt _ (by decide)⟩

theorem offA_eq : ∀ (c : Dev nD) (k : Fin 4) (h : Fin 2), offA c k h = ![1024 * (rowA c k).val + 512 * h.val, 0] := by decide +kernel

/-- The index of `A` a chunk's row `r` and column `l` is at. -/
def aIdx (c : Dev nD) (k : Fin 4) (r : Fin 1024) (l : Fin 2048) : S4096x2048.Idx := fun a => match a with
  | ⟨0, _⟩ => ⟨1024 * (rowA c k).val + r.val, by have := (rowA c k).isLt; have := r.isLt; show _ < 4096; omega⟩
  | ⟨1, _⟩ => l

/-- The device's operands at launch. -/
abbrev A0 (c : Dev nD) : S4096x2048.Idx → Elt F .f32 := m ((c : Thread nD τ).loc main_arg0)
abbrev B0 (c : Dev nD) : S2048x4096.Idx → Elt F .f32 := m ((c : Thread nD τ).loc main_arg1)

/-- Every plane of the chunk buffer holding chunk `k`, rounded to bf16. -/
def At (c : Dev nD) (k : Fin 4) : FVec F S3x1024x2048 .bf16 :=
  truncf .bf16 (fun i : S3x1024x2048.Idx => A0 m c (aIdx c k (i 1) (i 2))) bitsLt_bf16_f32
/-- The strips of `B`, rounded to bf16. -/
def Bt (c : Dev nD) : FVec F S2048x4096 .bf16 := truncf .bf16 (B0 m c) bitsLt_bf16_f32

/-- The chunk and the slot of the chunk buffer a stage uses for strip `j`. -/
def kOf (s : Fin 4) (j : Fin 8) : Fin 4 := match s with
  | 0 => ⟨j.val % 2, by omega⟩
  | 1 => 2
  | 2 => ⟨1 - j.val % 2, by omega⟩
  | 3 => 3
def slOf (s : Fin 4) (j : Fin 8) : Fin 3 := match s with
  | 0 => slot0 j
  | 1 => 2
  | 2 => slot2 j
  | 3 => 2

/-- Device `c`'s product for strip `j` at stage `s`. -/
def prodV (s : Fin 4) (j : Fin 8) (c : Dev nD) : FVec F S1024x512 .f32 :=
  dotV ((abM).view.readAt (Elt F) (abR' (slOf s j)).toLoadRect (At m c (kOf s j))) ((bbM).view.readAt (Elt F) (bbR' j).toLoadRect (Bt m c))

/-- The partial sum of strip `j` after stage `s` on device `c`. -/
def accV (j : Fin 8) : ℕ → Dev nD → FVec F S1024x512 .bf16
  | 0, c => truncf .bf16 (prodV m 0 j c) bitsLt_bf16_f32
  | s + 1, c => truncf .bf16 (addf (extf .f32 (accV j s (up j c)) bitsLt_bf16_f32) (prodV m (if s = 0 then 1 else if s = 1 then 2 else 3) j c)) bitsLt_bf16_f32

/-! ## The strips -/

/-- Strip `j` of side `s` of device `c`'s strip buffer, holding `v`. -/
def strip (c : Dev nD) (s : Fin 2) (j : Fin 8) (v : S1024x512.Idx → Elt F .bf16) : sProp 𝕄 :=
  iprop(∃ f, ⌜(cmS s j).view.read (Elt F) f = v⌝ ∗ ((cmS s j).view.loc (c : Thread nD τ) ↦[(cmS s j).view.set]{fullShare} f))
/-- It holding anything. -/
def stripE (c : Dev nD) (s : Fin 2) (j : Fin 8) : sProp 𝕄 :=
  iprop(∃ f, ((cmS s j).view.loc (c : Thread nD τ) ↦[(cmS s j).view.set]{fullShare} f))

omit [FloatOps F] in
instance strip_storable (c : Dev nD) (s j v) : BI.Storable (upEmb : UEmb _ 𝕄) (strip (F := F) c s j v) := by unfold strip; infer_instance
omit [FloatOps F] in
instance stripE_storable (c : Dev nD) (s j) : BI.Storable (upEmb : UEmb _ 𝕄) (stripE (F := F) c s j) := by unfold stripE; infer_instance

omit [FloatOps F] in
theorem strip_any (c : Dev nD) (s j v) : strip (F := F) c s j v ⊢ stripE c s j := by
  unfold strip stripE; iintro ⟨%f, -, H⟩; iexists f; iexact H

/-- The side a hop sends from, and the side it receives in. -/
def sideS (h : Fin 3) : Fin 2 := match h with | 0 => 0 | 1 => 1 | 2 => 0
def sideD (h : Fin 3) : Fin 2 := match h with | 0 => 1 | 1 => 0 | 2 => 1

/-! ## The schedule -/

/-- What a neighbour's signal of the entry barrier hands `c`: the strips it will send that neighbour. -/
def barPay (c : Dev nD) (d : Bool) : sProp 𝕄 := bigSep (Finset.univ.filter fun j : Fin 8 => ev j = d) fun j => stripE (dn j c) 1 j
/-- What a finished send hands back. -/
def sendPay (c : Dev nD) (h : Fin 3) (j : Fin 8) : sProp 𝕄 := stripE c (sideS h) j
/-- What a receive hands over: the strip holding the sender's partial sum. -/
def recvPay (c : Dev nD) (h : Fin 3) (j : Fin 8) : sProp 𝕄 := strip c (sideD h) j (accV m j h.val (up j c))
/-- What a credit hands over: the receiver's buffer of the next hop, and that the receiver is past the entry barrier. -/
def credPay (c : Dev nD) (h : Fin 2) (j : Fin 8) : sProp 𝕄 :=
  iprop(stripE (dn j c) (sideD h.succ) j ∗ reached ER (cell (dn j c) .bar) 1)

def payOf (c : Dev nD) (k : CK) (r : ℕ) (d : Bool) : sProp 𝕄 := match k with
  | .bar => if r = 0 then barPay c d else iprop(emp)
  | .send h j => sendPay c h j
  | .recv h j => recvPay m c h j
  | .cred h j => credPay c h j

instance payOf_storable (c : Dev nD) (k : CK) (r : ℕ) (d : Bool) : BI.Storable (upEmb : UEmb _ 𝕄) (payOf (F := F) m c k r d) := by
  cases k <;> dsimp only [payOf]
  · split
    · unfold barPay; infer_instance
    · infer_instance
  · unfold sendPay; infer_instance
  · unfold recvPay; infer_instance
  · unfold credPay; infer_instance

def dutiesOf (k : CK) (r : ℕ) : Finset Bool := match k with
  | .bar => if r < 2 then Finset.univ else ∅
  | _ => if r = 0 then {false} else ∅
def amtOf (k : CK) : ℕ := match k with
  | .send _ _ => N
  | .recv _ _ => N
  | _ => 1
theorem amtOf_pos (k : CK) : 0 < amtOf k := by cases k <;> first | exact N_pos | exact Nat.one_pos

def Rd : Rounds.Schedule (GSem nD τ sig) Bool 𝕄 where
  duties g r := if g.1.2 = .tc then (match ckOf g.2 with | some k => dutiesOf k r | none => ∅) else ∅
  unitless _ := False
  amount g _ _ := match ckOf g.2 with | some k => amtOf k | none => 1
  payload g r d := match ckOf g.2 with | some k => payOf m g.1.1 k r d | none => iprop(emp)
  amount_pos g _ _ _ := by
    cases ckOf g.2 with
    | none => exact Nat.one_pos
    | some k => exact amtOf_pos k

instance Rd_payload_storable (g : GSem nD τ sig) (r : ℕ) (d : Bool) : BI.Storable (upEmb : UEmb _ 𝕄) ((Rd (F := F) m).payload g r d) := by
  show BI.Storable upEmb (match ckOf g.2 with | some k => payOf m g.1.1 k r d | none => iprop(emp))
  split <;> infer_instance

section Sched
variable (c : Dev nD) (k : CK)

theorem Rd_duties (r : ℕ) : (Rd (F := F) m).duties (cell c k) r = dutiesOf k r := by
  dsimp only [Rd]; rw [if_pos rfl, ckOf_csem]
theorem Rd_amount (r : ℕ) (d : Bool) : (Rd (F := F) m).amount (cell c k) r d = amtOf k := by
  dsimp only [Rd]; rw [ckOf_csem]
theorem Rd_payload (r : ℕ) (d : Bool) : (Rd (F := F) m).payload (cell c k) r d = payOf m c k r d := by
  dsimp only [Rd]; rw [ckOf_csem]
theorem Rd_later (r : ℕ) (hr : (if k = .bar then 2 else 1) ≤ r) : (Rd (F := F) m).duties (cell c k) r = ∅ := by
  rw [Rd_duties]
  cases k
  · rw [if_pos rfl] at hr; exact if_neg (by omega)
  all_goals rw [if_neg (by intro h; cases h)] at hr; exact if_neg (by omega)

theorem Rd_expect_one (hk : k ≠ .bar) : (Rd (F := F) m).expect (cell c k) 0 = amtOf k := by
  have hd : dutiesOf k 0 = {false} := by cases k <;> first | exact absurd rfl hk | rfl
  unfold Schedule.expect Schedule.amountOf; rw [Rd_duties, hd, Finset.sum_singleton, Rd_amount]
theorem Rd_expect_bar (r : ℕ) (hr : r < 2) : (Rd (F := F) m).expect (cell c .bar) r = 2 := by
  have hd : dutiesOf .bar r = Finset.univ := if_pos hr
  unfold Schedule.expect Schedule.amountOf
  rw [Rd_duties, hd, Finset.sum_congr rfl fun d _ => Rd_amount m c .bar r d]; rfl

theorem rest_one (hk : k ≠ .bar) : bigSep ((Rd (F := F) m).duties (cell c k) 0 \ ∅) (fun d => (Rd (F := F) m).payload (cell c k) 0 d) = payOf m c k 0 false := by
  have hd : dutiesOf k 0 = {false} := by cases k <;> first | exact absurd rfl hk | rfl
  rw [Finset.sdiff_empty, Rd_duties, hd, bigSep_singleton, Rd_payload]
theorem rest_bar : bigSep ((Rd (F := F) m).duties (cell c .bar) 0 \ ∅) (fun d => (Rd (F := F) m).payload (cell c .bar) 0 d) = iprop(barPay c false ∗ barPay c true) := by
  have hd : dutiesOf .bar 0 = Finset.univ := rfl
  rw [Finset.sdiff_empty, Rd_duties, hd, bigSep_univ_eq_bigSepL [false, true] (by decide) (by decide), bigSepL_cons_cons, bigSepL_singleton,
    Rd_payload, Rd_payload]
  rfl

end Sched

/-! ## What a core owes -/

/-- The signals and remote credits a core issues, in program order: cell, index, amount. -/
def items (c : Dev nD) : List (GSem nD τ sig × Bool × ℕ) :=
  [(cell (prv c) .bar, false, 1), (cell (nxt c) .bar, false, 1)]
  ++ (List.ofFn fun j : Fin 8 => (cell (dn j c) (.recv 0 j), false, N))
  ++ ((List.ofFn fun j : Fin 8 => [(cell (up j c) (.cred 0 j), false, 1), (cell (dn j c) (.recv 1 j), false, N)]).flatten)
  ++ ((List.ofFn fun j : Fin 8 => [(cell (up j c) (.cred 1 j), false, 1), (cell (dn j c) (.recv 2 j), false, N)]).flatten)
  ++ [(cell (prv c) .bar, true, 1), (cell (nxt c) .bar, true, 1)]

def item (c : Dev nD) (i : ℕ) : GSem nD τ sig × Bool × ℕ := (items c).getD i (cell c .bar, false, 0)

/-- What is still owed when the first `n` are issued. -/
def Ow (c : Dev nD) (n : ℕ) : CellTallies nD τ sig Bool := ∑ i ∈ Finset.Ico n 44, tallyAt (item c i).1 (item c i).2.1 (item c i).2.2

theorem Ow_step (c : Dev nD) (n : ℕ) (h : n < 44) : Ow c n = Ow c (n + 1) + tallyAt (item c n).1 (item c n).2.1 (item c n).2.2 := by
  unfold Ow; rw [Finset.sum_eq_sum_Ico_succ_bot h, add_comm]
theorem Ow_end (c : Dev nD) : Ow c 44 = 0 := by unfold Ow; rw [Finset.Ico_self, Finset.sum_empty]

theorem item_recv0 (c : Dev nD) : ∀ j : Fin 8, item c (2 + j.val) = (cell (dn j c) (.recv 0 j), false, N) := by intro j; fin_cases j <;> rfl
theorem item_cred (c : Dev nD) : ∀ (h : Fin 2) (j : Fin 8), item c (10 + 16 * h.val + 2 * j.val) = (cell (up j c) (.cred h j), false, 1) := by
  intro h j; fin_cases h <;> fin_cases j <;> rfl
theorem item_recv (c : Dev nD) : ∀ (h : Fin 2) (j : Fin 8), item c (10 + 16 * h.val + 2 * j.val + 1) = (cell (dn j c) (.recv h.succ j), false, N) := by
  intro h j; fin_cases h <;> fin_cases j <;> rfl

/-! ## The levels -/

def L (g : GSem nD τ sig) : Finset Bool := if g.1.2 = .tc then Finset.univ else ∅
def lvK (k : Option CK) (u : Bool) : ℕ := match k with
  | some .bar => if u then 100 else 1
  | some (.recv h _) => 10 * h.val + 2
  | some (.cred h j) => 10 * h.val + 3 + j.val
  | _ => 0
def lv (g : GSem nD τ sig) (u : Bool) : ℕ := lvK (ckOf g.2) u

theorem L_tc (c : Dev nD) (sm : SemLoc sig) : L ((c : Thread nD τ), sm) = Finset.univ := if_pos rfl
theorem L_of_ne (g : GSem nD τ sig) (h : g.1.2 ≠ .tc) : L g = ∅ := if_neg h

/-- The level of the `i`-th item. -/
def lvI (i : ℕ) : ℕ :=
  if i < 2 then 1 else if i < 10 then 2 else if i < 42 then
    (if i % 2 = 0 then 10 * ((i - 10) / 16) + 3 + (i - 10) % 16 / 2 else 10 * ((i - 10) / 16) + 12)
  else 100

theorem item_tc (c : Dev nD) (i : ℕ) (h : i < 44) : (item c i).1.1.2 = .tc := by
  interval_cases i <;> rfl
theorem item_lv (c : Dev nD) (i : ℕ) (h : i < 44) : lv (item c i).1 (item c i).2.1 = lvI i := by
  have key : ∀ k u, lv (cell c k) u = lvK (some k) u := fun k u => by unfold lv; rw [ckOf_csem]
  by_cases h2 : i < 2
  · interval_cases i <;> (show lvK (ckOf (csem .bar)) _ = _; rw [ckOf_csem]; rfl)
  by_cases h10 : i < 10
  · have := item_recv0 c ⟨i - 2, by omega⟩
    rw [show 2 + (⟨i - 2, by omega⟩ : Fin 8).val = i by simp only; omega] at this
    rw [this]; show lvK (ckOf (csem (.recv 0 _))) _ = _; rw [ckOf_csem]; unfold lvI; rw [if_neg h2, if_pos h10]; rfl
  by_cases h42 : i < 42
  · rcases Nat.mod_two_eq_zero_or_one i with hm | hm
    · have := item_cred c ⟨(i - 10) / 16, by omega⟩ ⟨(i - 10) % 16 / 2, by omega⟩
      rw [show 10 + 16 * (⟨(i - 10) / 16, by omega⟩ : Fin 2).val + 2 * (⟨(i - 10) % 16 / 2, by omega⟩ : Fin 8).val = i by simp only; omega] at this
      rw [this]; show lvK (ckOf (csem (.cred _ _))) _ = _; rw [ckOf_csem]; unfold lvI; rw [if_neg h2, if_neg h10, if_pos h42, if_pos hm]; rfl
    · have := item_recv c ⟨(i - 10) / 16, by omega⟩ ⟨(i - 10) % 16 / 2, by omega⟩
      rw [show 10 + 16 * (⟨(i - 10) / 16, by omega⟩ : Fin 2).val + 2 * (⟨(i - 10) % 16 / 2, by omega⟩ : Fin 8).val + 1 = i by simp only; omega] at this
      rw [this]; show lvK (ckOf (csem (.recv _ _))) _ = _; rw [ckOf_csem]; unfold lvI; rw [if_neg h2, if_neg h10, if_pos h42, if_neg (by omega)]
      show 10 * ((i - 10) / 16 + 1) + 2 = _; omega
  · interval_cases i <;> (show lvK (ckOf (csem .bar)) _ = _; rw [ckOf_csem]; rfl)

theorem Ow_pos {c : Dev nD} {n : ℕ} {g : GSem nD τ sig} {u : Bool} (h : 0 < Ow c n g u) :
    ∃ i, n ≤ i ∧ i < 44 ∧ g = (item c i).1 ∧ u = (item c i).2.1 := by
  unfold Ow at h
  rw [Finset.sum_apply, Finsupp.finset_sum_apply] at h
  obtain ⟨i, hi, hne⟩ := Finset.exists_ne_zero_of_sum_ne_zero (Nat.pos_iff_ne_zero.mp h)
  rw [tallyAt_apply] at hne
  rw [Finset.mem_Ico] at hi
  by_cases h' : g = (item c i).1 ∧ u = (item c i).2.1
  · exact ⟨i, hi.1, hi.2, h'.1, h'.2⟩
  · rw [if_neg h'] at hne; exact absurd rfl hne

/-- A core owing what follows the first `n` items may wait on a semaphore below all their levels. -/
theorem mayWait (c : Dev nD) (n : ℕ) (sm : SemLoc sig) (u : Bool) (h : ∀ i, n ≤ i → i < 44 → lvK (ckOf sm) u < lvI i) :
    (levAts L lv : sProp 𝕄) ⊢ MayWait (c : Thread nD τ) sm u (Ow c n) := by
  refine MayOwe.of_cut (L := L) (lev := lv) (lvK (ckOf sm) u) (fun p hp => by rw [Finset.mem_singleton.mp hp, L_tc]; exact Finset.mem_univ _)
    (fun g v hg => ?_) (fun p hp => ?_) (fun g v hg => ?_)
  · obtain ⟨i, -, h2, rfl, rfl⟩ := Ow_pos hg
    unfold L; rw [if_pos (item_tc c i h2)]; exact Finset.mem_univ _
  · rw [Finset.mem_singleton.mp hp]; exact le_of_eq rfl
  · obtain ⟨i, h1, h2, rfl, rfl⟩ := Ow_pos hg
    rw [item_lv c i h2]; exact h i h1 h2

end Cert.KernelIdealProof
-- ==== Proof.KernelIdeal.Mem.lean ====
/- What the buffers hold: loads and stores of the strip buffer, the converted chunks of `A`, the converted strips of `B`. -/
module

public import proofs.«01_k».proof.Proof.KernelIdeal.Common
public import Idealize.ShloMosaic.Lib.ValueLayout
public import Idealize.ShloMosaic.Lib.Pipeline.Value

@[expose] public section

noncomputable section

namespace Cert.KernelIdealProof

open Idealize.ShloMosaic Idealize.ShloMosaic.TcCoe
open Idealize.ShloMosaic.ValueIdx
open Cert.KernelIdeal Cert.KernelIdeal.Gen

variable {F : FTy → Type} [FloatOps F]
variable (m : (ℓ : Loc nD τ sig) → Buf (Elt F) ℓ)

/-! ## The strip buffer -/

theorem sub_reshape {κ : Kind} {sp : Space} {s s' : Shape} {e : EltTy} (v : View sig κ sp s e) (r : Rect s) (h : s'.numel = r.shape.numel) :
    v.setOn r.toLoadRect.set ⊆ ((v.slice r).reshape s' h).set := by
  rw [View.set_reshape, View.set_slice]; exact subset_rfl
theorem sub_reshape' {κ : Kind} {sp : Space} {s s' : Shape} {e : EltTy} (v : View sig κ sp s e) (r : Rect s) (h : s'.numel = r.shape.numel) :
    (v.slice r).setOn Finset.univ ⊆ ((v.slice r).reshape s' h).set := by
  rw [View.set_reshape]; exact subset_rfl

theorem cm_sub (s : Fin 2) (j : Fin 8) : cmM.view.setOn (cmR s j).toLoadRect.set ⊆ (cmS s j).view.set := sub_reshape cmM.view (cmR s j) _
theorem cm_sub' (s : Fin 2) (j : Fin 8) : (cmM.access (cmR s j)).setOn Finset.univ ⊆ (cmS s j).view.set := sub_reshape' cmM.view (cmR s j) _

/-- A load of a strip, as a matrix, is what the strip holds. -/
theorem cm_load (s : Fin 2) (j : Fin 8) (f : cmM.view.ty.Contents (Elt F)) :
    shapeCast S1024x512 (cmM.view.readAt (Elt F) (cmR s j).toLoadRect f) shapeCasts_S1x1x1024x512_S1024x512 = (cmS s j).view.read (Elt F) f := rfl

/-- After a store of a matrix to a strip, the strip holds it. -/
theorem cm_store (s : Fin 2) (j : Fin 8) (f : cmM.view.ty.Contents (Elt F)) (v : S1024x512.Idx → Elt F .bf16) :
    (cmS s j).view.read (Elt F) ((cmM.access (cmR s j)).write (Elt F) f (shapeCast S1x1x1024x512 v shapeCasts_S1024x512_S1x1x1024x512) Finset.univ) = v := by
  have h := View.read_write_univ (Val := Elt F) (v := cmM.access (cmR s j)) f (shapeCast S1x1x1024x512 v shapeCasts_S1024x512_S1x1x1024x512)
  funext x
  refine (congrFun h (Shape.reshapeEquiv _ x)).trans ?_
  show v (Shape.reshapeEquiv _ (Shape.reshapeEquiv _ x)) = v x
  rw [Shape.reshapeEquiv_reshapeEquiv, Shape.reshapeEquiv_self]

/-! ## The chunks of `A` -/

/-- Half `h` of plane `s` of the chunk buffer holds chunk `k`. -/
def okA (c : Dev nD) (f : S3x1024x2048.Idx → Elt F .bf16) (s h : ℕ) (k : Fin 4) : Prop :=
  ∀ i : S3x1024x2048.Idx, (i 0).val = s → 512 * h ≤ (i 1).val → (i 1).val < 512 * h + 512 → f i = At m c k i

/-- After `n` conversions, each converted half not overwritten since holds its chunk: conversion `i` is of half
    `i % 2` of chunk `i / 2`, to plane `min (i / 2) 2`. -/
def aF (c : Dev nD) (f : S3x1024x2048.Idx → Elt F .bf16) (n : ℕ) : Prop :=
  ∀ i, i < n → (4 ≤ i → n ≤ i + 2) → ∀ k : Fin 4, k.val = i / 2 → okA m c f (min (i / 2) 2) (i % 2) k

theorem aF_zero (c : Dev nD) (f) : aF m c f 0 := fun i hi => absurd hi (Nat.not_lt_zero i)

/-- What a fetch of half a chunk brings. -/
theorem aS_read (c : Dev nD) (k : Fin 4) (h : Fin 2) (f : S4096x2048.Idx → Elt F .f32) (x : S512x2048.Idx) :
    (aS c k h).view.read (Elt F) f x = f (aIdx c k ⟨512 * h.val + (x 0).val, by have := h.isLt; have : (x 0).val < 512 := (x 0).isLt; omega⟩ (x 1)) := by
  refine congrArg f (funext fun a => Fin.ext ?_)
  show offA c k h a + 1 * (x a).val = _
  rw [offA_eq, Nat.one_mul]
  match a with
  | ⟨0, _⟩ => show 1024 * (rowA c k).val + 512 * h.val + (x 0).val = 1024 * (rowA c k).val + (512 * h.val + (x 0).val); omega
  | ⟨1, _⟩ => show 0 + (x 1).val = (x 1).val; omega

theorem payA_at (v : Vec F S512x2048 .f32) (r : Fin 512) (l : Fin 2048) : payA v (ix3 (0 : Fin 1) r l) = FloatOps.truncf .bf16 bitsLt_bf16_f32 (v (ix2 r l)) := by
  unfold payA; exact shapeCast_ab_1ab_apply _ _ _ _ _

/-- What a conversion stores, at an element of the half it stores to. -/
theorem convA_write (c : Dev nD) (k : Fin 4) (h : Fin 2) (s : Fin 3) (f : S3x1024x2048.Idx → Elt F .bf16) :
    okA m c ((abM.access (abR s h)).write (Elt F) f (payA ((aS c k h).view.read (Elt F) (A0 m c))) Finset.univ) s.val h.val k := by
  intro i h0 h1 h2
  have hlt : (i 1).val - 512 * h.val < 512 := by omega
  have hi : i = (abM.access (abR s h)).emb (ix3 (0 : Fin 1) (⟨(i 1).val - 512 * h.val, hlt⟩ : Fin 512) (i 2)) := by
    funext a; apply Fin.ext
    match a with
    | ⟨0, _⟩ => show (i 0).val = s.val + 1 * 0; omega
    | ⟨1, _⟩ => show (i 1).val = 512 * h.val + 1 * ((i 1).val - 512 * h.val); omega
    | ⟨2, _⟩ => show (i 2).val = 0 + 1 * (i 2).val; omega
  have hw := View.write_emb_of_mem (Val := Elt F) (v := abM.access (abR s h)) f (payA ((aS c k h).view.read (Elt F) (A0 m c)))
    (Finset.mem_univ (ix3 (0 : Fin 1) (⟨(i 1).val - 512 * h.val, hlt⟩ : Fin 512) (i 2)))
  refine (congrArg (fun y => (abM.access (abR s h)).write (Elt F) f (payA ((aS c k h).view.read (Elt F) (A0 m c))) Finset.univ y) hi).trans (hw.trans ?_)
  show payA ((aS c k h).view.read (Elt F) (A0 m c)) (ix3 (0 : Fin 1) (⟨(i 1).val - 512 * h.val, hlt⟩ : Fin 512) (i 2)) = FloatOps.truncf .bf16 bitsLt_bf16_f32 (A0 m c (aIdx c k (i 1) (i 2)))
  refine (payA_at _ _ _).trans (congrArg (FloatOps.truncf .bf16 bitsLt_bf16_f32) ((aS_read c k h (A0 m c) _).trans (congrArg (A0 m c) (funext fun a => Fin.ext ?_))))
  match a with
  | ⟨0, _⟩ => show 1024 * (rowA c k).val + (512 * h.val + ((i 1).val - 512 * h.val)) = 1024 * (rowA c k).val + (i 1).val; omega
  | ⟨1, _⟩ => rfl

theorem convA_off (h : Fin 2) (s : Fin 3) (f : S3x1024x2048.Idx → Elt F .bf16) (w : S1x512x2048.Idx → Elt F .bf16) (i : S3x1024x2048.Idx)
    (hi : (i 0).val ≠ s.val ∨ (i 1).val < 512 * h.val ∨ 512 * h.val + 512 ≤ (i 1).val) :
    (abM.access (abR s h)).write (Elt F) f w Finset.univ i = f i := by
  refine View.write_of_not_mem (Val := Elt F) (v := abM.access (abR s h)) f w Finset.univ fun hm => ?_
  have hm' : i ∈ (abR s h).set := by
    obtain ⟨x, -, hx⟩ := Finset.mem_map.mp hm
    rw [← hx]; exact LoadRect.idx_mem _ x
  have h0 := Rect.mem_set_unit.mp hm' 0
  have h1 := Rect.mem_set_unit.mp hm' 1
  have e0 : s.val ≤ (i 0).val ∧ (i 0).val < s.val + 1 := h0
  have e1 : 512 * h.val ≤ (i 1).val ∧ (i 1).val < 512 * h.val + 512 := h1
  omega

/-- A conversion keeps what it does not overwrite. -/
theorem aF_step (c : Dev nD) (n : ℕ) (k : Fin 4) (h : Fin 2) (s : Fin 3) (hk : k.val = n / 2) (hh : h.val = n % 2) (hs : s.val = min (n / 2) 2)
    (f : S3x1024x2048.Idx → Elt F .bf16) (hf : aF m c f n) :
    aF m c ((abM.access (abR s h)).write (Elt F) f (payA ((aS c k h).view.read (Elt F) (A0 m c))) Finset.univ) (n + 1) := by
  intro i hi hv k' hk'
  by_cases hin : i = n
  · subst hin
    have : k' = k := Fin.ext (by omega)
    subst this
    rw [← hs, ← hh]; exact convA_write m c k' h s f
  · intro x h0 h1 h2
    rw [convA_off h s f _ x (by omega)]
    exact hf i (by omega) (by omega) k' hk' x h0 h1 h2

/-- A load of a plane both halves of which hold chunk `k`. -/
theorem abR_read (c : Dev nD) (s : Fin 3) (k : Fin 4) (f : S3x1024x2048.Idx → Elt F .bf16) (h0 : okA m c f s.val 0 k) (h1 : okA m c f s.val 1 k) :
    abM.view.readAt (Elt F) (abR' s).toLoadRect f = abM.view.readAt (Elt F) (abR' s).toLoadRect (At m c k) := by
  refine View.readAt_congr fun i hi => ?_
  have hm : i ∈ (abR' s).set := by
    obtain ⟨x, hx, hx'⟩ := Finset.mem_map.mp hi
    rw [← hx']; exact hx
  have e0 : s.val ≤ (i 0).val ∧ (i 0).val < s.val + 1 := Rect.mem_set_unit.mp hm 0
  have e1 : (i 1).val < 1024 := (i 1).isLt
  by_cases hlt : (i 1).val < 512
  · exact h0 i (by omega) (by omega) (by omega)
  · exact h1 i (by omega) (by omega) (by omega)

/-- The same from what `n` conversions have left: the chunk's two conversions, neither overwritten. -/
theorem aF_read (c : Dev nD) (n : ℕ) (s : Fin 3) (k : Fin 4) (f : S3x1024x2048.Idx → Elt F .bf16) (hf : aF m c f n)
    (hs : s.val = min k.val 2) (hn : 2 * k.val + 2 ≤ n) (hov : 2 ≤ k.val → n ≤ 2 * k.val + 2) :
    abM.view.readAt (Elt F) (abR' s).toLoadRect f = abM.view.readAt (Elt F) (abR' s).toLoadRect (At m c k) := by
  refine abR_read m c s k f ?_ ?_
  · have := hf (2 * k.val) (by omega) (by omega) k (by omega)
    rwa [show min (2 * k.val / 2) 2 = s.val by omega, show 2 * k.val % 2 = 0 by omega] at this
  · have := hf (2 * k.val + 1) (by omega) (by omega) k (by omega)
    rwa [show min ((2 * k.val + 1) / 2) 2 = s.val by omega, show (2 * k.val + 1) % 2 = 1 by omega] at this

/-- The plane a stage uses holds the chunk it uses. -/
theorem stage_slot (s : Fin 4) (j : Fin 8) : (slOf s j).val = min (kOf s j).val 2 := by revert s j; decide

theorem as_load (f : S512x2048.Idx → Elt F .f32) : asM.view.readAt (Elt F) asR.toLoadRect f = f :=
  Memref.readAt_unit_zero (Elt F) cc0_scratch0 (funext fun a => by match a with | ⟨0, _⟩ => rfl | ⟨1, _⟩ => rfl) _ f

/-! ## The strips of `B` -/

/-- The first `n` strips converted, and the first `h` halves of the next. -/
def bF (c : Dev nD) (f : S2048x4096.Idx → Elt F .bf16) (n h : ℕ) : Prop :=
  ∀ i : S2048x4096.Idx, ((i 1).val < 512 * n ∨ ((i 1).val < 512 * (n + 1) ∧ (i 0).val < 1024 * h)) → f i = Bt m c i

theorem bF_zero (c : Dev nD) (f) : bF m c f 0 0 := fun i hi => by omega
theorem bF_next (c : Dev nD) (f) (n : ℕ) (hf : bF m c f n 2) : bF m c f (n + 1) 0 := fun i hi => by
  refine hf i ?_
  have : (i 0).val < 2048 := (i 0).isLt
  omega

theorem payB_eq (v : Vec F S1024x512 .f32) : payB v = truncf .bf16 v bitsLt_bf16_f32 := Idealize.ShloMosaic.shapeCast_self _ _

/-- What a fetch of a strip brings, half `h` of it loaded. -/
theorem bS_read (j : Fin 8) (h : Fin 2) (f : S2048x4096.Idx → Elt F .f32) (a : Fin 1024) (b : Fin 512) :
    bsM.view.readAt (Elt F) (bsR h).toLoadRect ((bS j).view.read (Elt F) f) (ix2 a b)
      = f (ix2 (⟨1024 * h.val + a.val, by omega⟩ : Fin 2048) (⟨512 * j.val + b.val, by omega⟩ : Fin 4096)) := by
  refine congrArg f (funext fun x => Fin.ext ?_)
  match x with
  | ⟨0, _⟩ => show 0 + 1 * (1024 * h.val + 1 * a.val) = 1024 * h.val + a.val; omega
  | ⟨1, _⟩ => show 512 * j.val + 1 * (0 + 1 * b.val) = 512 * j.val + b.val; omega

theorem bbR_emb (h : Fin 2) (j : Fin 8) (a : Fin 1024) (b : Fin 512) :
    (bbM.access (bbR h j)).emb (ix2 a b) = ix2 (⟨1024 * h.val + a.val, by omega⟩ : Fin 2048) (⟨512 * j.val + b.val, by omega⟩ : Fin 4096) := by
  refine funext fun x => Fin.ext ?_
  match x with
  | ⟨0, _⟩ => show 1024 * h.val + 1 * a.val = 1024 * h.val + a.val; omega
  | ⟨1, _⟩ => show 512 * j.val + 1 * b.val = 512 * j.val + b.val; omega

theorem convB_write (c : Dev nD) (j : Fin 8) (h : Fin 2) (f : S2048x4096.Idx → Elt F .bf16) (a : Fin 1024) (b : Fin 512) :
    (bbM.access (bbR h j)).write (Elt F) f (payB (bsM.view.readAt (Elt F) (bsR h).toLoadRect ((bS j).view.read (Elt F) (B0 m c)))) Finset.univ
        (ix2 (⟨1024 * h.val + a.val, by omega⟩ : Fin 2048) (⟨512 * j.val + b.val, by omega⟩ : Fin 4096))
      = Bt m c (ix2 (⟨1024 * h.val + a.val, by omega⟩ : Fin 2048) (⟨512 * j.val + b.val, by omega⟩ : Fin 4096)) := by
  have hw := View.write_emb_of_mem (Val := Elt F) (v := bbM.access (bbR h j)) f
    (payB (bsM.view.readAt (Elt F) (bsR h).toLoadRect ((bS j).view.read (Elt F) (B0 m c)))) (Finset.mem_univ (ix2 a b))
  rw [bbR_emb h j a b] at hw
  refine hw.trans ?_
  refine (congrFun (payB_eq _) (ix2 a b)).trans ?_
  exact congrArg (FloatOps.truncf .bf16 bitsLt_bf16_f32) (bS_read j h (B0 m c) a b)

theorem convB_off (h : Fin 2) (j : Fin 8) (f : S2048x4096.Idx → Elt F .bf16) (w : S1024x512.Idx → Elt F .bf16) (i : S2048x4096.Idx)
    (hi : ¬ (512 * j.val ≤ (i 1).val ∧ (i 1).val < 512 * j.val + 512 ∧ 1024 * h.val ≤ (i 0).val ∧ (i 0).val < 1024 * h.val + 1024)) :
    (bbM.access (bbR h j)).write (Elt F) f w Finset.univ i = f i := by
  refine View.write_of_not_mem (Val := Elt F) (v := bbM.access (bbR h j)) f w Finset.univ fun hm => ?_
  have hm' : i ∈ (bbR h j).set := by
    obtain ⟨x, -, hx⟩ := Finset.mem_map.mp hm
    rw [← hx]; exact LoadRect.idx_mem _ x
  have e0 : 1024 * h.val ≤ (i 0).val ∧ (i 0).val < 1024 * h.val + 1024 := Rect.mem_set_unit.mp hm' 0
  have e1 : 512 * j.val ≤ (i 1).val ∧ (i 1).val < 512 * j.val + 512 := Rect.mem_set_unit.mp hm' 1
  exact hi ⟨e1.1, e1.2, e0.1, e0.2⟩

/-- A conversion of a half strip. -/
theorem bF_step (c : Dev nD) (j : Fin 8) (h : Fin 2) (f : S2048x4096.Idx → Elt F .bf16) (hf : bF m c f j.val h.val) :
    bF m c ((bbM.access (bbR h j)).write (Elt F) f (payB (bsM.view.readAt (Elt F) (bsR h).toLoadRect ((bS j).view.read (Elt F) (B0 m c)))) Finset.univ) j.val (h.val + 1) := by
  intro i hi
  by_cases hm : 512 * j.val ≤ (i 1).val ∧ (i 1).val < 512 * j.val + 512 ∧ 1024 * h.val ≤ (i 0).val ∧ (i 0).val < 1024 * h.val + 1024
  · have he : i = ix2 (⟨1024 * h.val + ((i 0).val - 1024 * h.val), by omega⟩ : Fin 2048) (⟨512 * j.val + ((i 1).val - 512 * j.val), by omega⟩ : Fin 4096) := by
      refine funext fun x => Fin.ext ?_
      match x with
      | ⟨0, _⟩ => show (i 0).val = 1024 * h.val + ((i 0).val - 1024 * h.val); omega
      | ⟨1, _⟩ => show (i 1).val = 512 * j.val + ((i 1).val - 512 * j.val); omega
    rw [he]
    exact convB_write m c j h f ⟨(i 0).val - 1024 * h.val, by omega⟩ ⟨(i 1).val - 512 * j.val, by omega⟩
  · rw [convB_off h j f _ i hm]
    refine hf i ?_
    have : (i 0).val < 2048 := (i 0).isLt
    have := h.isLt
    omega

/-- A load of a converted strip. -/
theorem bF_read (c : Dev nD) (n h : ℕ) (j : Fin 8) (hj : j.val < n) (f : S2048x4096.Idx → Elt F .bf16) (hf : bF m c f n h) :
    bbM.view.readAt (Elt F) (bbR' j).toLoadRect f = bbM.view.readAt (Elt F) (bbR' j).toLoadRect (Bt m c) := by
  refine View.readAt_congr fun i hi => hf i ?_
  have hm : i ∈ (bbR' j).set := by
    obtain ⟨x, hx, hx'⟩ := Finset.mem_map.mp hi
    rw [← hx']; exact hx
  have e1 : 512 * j.val ≤ (i 1).val ∧ (i 1).val < 512 * j.val + 512 := Rect.mem_set_unit.mp hm 1
  omega

/-! ## The partial sums -/

/-- The first partial sum, as the program stores it. -/
theorem pay0_eq (c : Dev nD) (j : Fin 8) :
    pay0 (abM.view.readAt (Elt F) (abR' (slOf 0 j)).toLoadRect (At m c (kOf 0 j))) (bbM.view.readAt (Elt F) (bbR' j).toLoadRect (Bt m c))
      = shapeCast S1x1x1024x512 (accV m j 0 c) shapeCasts_S1024x512_S1x1x1024x512 := rfl

/-- A hop's partial sum, as the program stores it. -/
theorem payH_eq (c : Dev nD) (h : Fin 3) (j : Fin 8) (s : Fin 2) (f : cmM.view.ty.Contents (Elt F))
    (hf : (cmS s j).view.read (Elt F) f = accV m j h.val (up j c)) :
    payH (abM.view.readAt (Elt F) (abR' (slOf h.succ j)).toLoadRect (At m c (kOf h.succ j))) (bbM.view.readAt (Elt F) (bbR' j).toLoadRect (Bt m c))
        (cmM.view.readAt (Elt F) (cmR s j).toLoadRect f)
      = shapeCast S1x1x1024x512 (accV m j (h.val + 1) c) shapeCasts_S1024x512_S1x1x1024x512 := by
  unfold payH
  rw [cm_load, hf]
  fin_cases h <;> rfl

end Cert.KernelIdealProof
-- ==== Proof.KernelIdeal.Steps.lean ====
/- What each step of the structured program does: from the resources it needs to the resources it leaves. -/
module

public import proofs.«01_k».proof.Proof.KernelIdeal.Mem

@[expose] public section

noncomputable section

namespace Cert.KernelIdealProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Bool (Elt F) ℕ UU ℕ

variable (m : (ℓ : Loc nD τ sig) → Buf (Elt F) ℓ) (K : Dev nD × CK → ℕ)

abbrev 𝒱₀ : Variants := Variants.none

/-- The weakest precondition of a program of core `c`. -/
abbrev WP (c : Dev nD) (p : PP F) (Q : PUnit → sProp 𝕄) : sProp 𝕄 :=
  wp frame (wpE (defs₀ (F := F)) 𝒱₀ (c : Thread nD τ) none) Set.univ p Q

/-- The facts every step may use: the invariants of all the shared cells, that each is at least at round 0, the levels. -/
def recs : sProp 𝕄 :=
  iprop((bigSep Finset.univ fun p : Dev nD × CK => cellInv ER (Rd m) (K p) (kcell p))
    ∗ (bigSep Finset.univ fun p : Dev nD × CK => reached ER (kcell p) 0) ∗ levAts L lv)

instance recs_persistent : BI.Persistent (recs (F := F) m K) := by unfold recs; infer_instance

theorem recs_inv (c : Dev nD) (k : CK) : recs (F := F) m K ⊢ cellInv ER (Rd m) (K (c, k)) (cell c k) := by
  unfold recs; iintro ⟨H, -, -⟩
  iapply (show (bigSep Finset.univ fun p : Dev nD × CK => (cellInv ER (Rd m) (K p) (kcell p) : sProp 𝕄)) ⊢ cellInv ER (Rd m) (K (c, k)) (cell c k) from
    bigSep_elim (Finset.mem_univ (c, k)))
  iexact H
theorem recs_reached (c : Dev nD) (k : CK) : recs (F := F) m K ⊢ reached ER (cell c k) 0 := by
  unfold recs; iintro ⟨-, H, -⟩
  iapply (show (bigSep Finset.univ fun p : Dev nD × CK => (reached ER (kcell p) 0 : sProp 𝕄)) ⊢ reached ER (cell c k) 0 from
    bigSep_elim (Finset.mem_univ (c, k)))
  iexact H
theorem recs_lev : recs (F := F) m K ⊢ levAts L lv := by
  unfold recs; iintro ⟨-, -, H⟩; iexact H

/-- What core `c` owes when its first `n` signals are issued. -/
def owesE (c : Dev nD) (n : ℕ) : sProp 𝕄 := iprop(∃ W, owes (c : Thread nD τ) (Ow c n) W)

/-- A semaphore at level 0 may always be waited on. -/
theorem mayWait0 (c : Dev nD) (n : ℕ) (sm : SemLoc sig) (h : lvK (ckOf sm) false = 0) : recs (F := F) m K ⊢ MayWait (c : Thread nD τ) sm false (Ow c n) :=
  (recs_lev m K).trans (mayWait c n sm false fun i _ _ => by
    rw [h]; unfold lvI
    split
    · decide
    split
    · decide
    split
    · split <;> omega
    · decide)

/-! ## The fetches and conversions of `B` -/

/-- The buffer of converted strips: the first `n` converted, and `h` halves of the next. -/
def bbSt (c : Dev nD) (n h : ℕ) : sProp 𝕄 := iprop(∃ f, ⌜bF m c f n h⌝ ∗ (bbM.view.loc (c : Thread nD τ) ↦{fullShare} f))
/-- No fetch of `B` in flight. -/
def bIdle (c : Dev nD) : sProp 𝕄 :=
  iprop((∃ f, bsM.view.loc (c : Thread nD τ) ↦{fullShare} f) ∗ (bM.view.loc (c : Thread nD τ) ↦{fullShare} (B0 m c)) ∗ semVal ((c : Thread nD τ), .dma cc0_scratch6.sem) 0)
/-- The fetch of strip `j` in flight. -/
def bFly (c : Dev nD) (j : Fin 8) : sProp 𝕄 :=
  iprop(Transfers.Flight EC (c : Thread nD τ) (.dma cc0_scratch6.sem) false bsM.view.dmaCredit
      iprop((bsM.view.loc (c : Thread nD τ) ↦{fullShare} ((bS j).view.read (Elt F) (B0 m c))) ∗ ((bS j).view.loc (c : Thread nD τ) ↦[(bS j).view.set]{fullShare} (B0 m c)))
    ∗ ((bS j).view.loc (c : Thread nD τ) ↦[Finset.univ \ (bS j).view.set]{fullShare} (B0 m c)))
/-- Strip `j` fetched. -/
def bGot (c : Dev nD) (j : Fin 8) : sProp 𝕄 :=
  iprop((bsM.view.loc (c : Thread nD τ) ↦{fullShare} ((bS j).view.read (Elt F) (B0 m c))) ∗ (bM.view.loc (c : Thread nD τ) ↦{fullShare} (B0 m c)) ∗ semVal ((c : Thread nD τ), .dma cc0_scratch6.sem) 0)

theorem bGot_idle (c : Dev nD) (j : Fin 8) : bGot m c j ⊢ bIdle m c := by
  unfold bGot bIdle; iintro ⟨H, H1, H2⟩
  isplitl [H]; · iexists _; iexact H
  isplitl [H1] <;> iassumption

theorem wp_fetchB (c : Dev nD) (j : Fin 8) (k : PP F) (Q : PUnit → sProp 𝕄) :
    iprop(bIdle m c ∗ (bFly m c j -∗ WP c k Q)) ⊢ WP c (fetchB j k) Q := by
  unfold bIdle fetchB
  iintro ⟨⟨⟨%f, Hs⟩, Hb, Hv⟩, Hk⟩
  ihave Hb' := (pointsTo_split_subset (Finset.subset_univ (bS j).view.set)).1 $$ Hb
  icases Hb' with ⟨Hb, Hr⟩
  iapply (Transfers.wp_dmaLocal EC 𝒱₀ (c : Thread nD τ) none (src := bS j) (dst := bsM) (sm := .dma cc0_scratch6.sem) (Sd := Finset.univ) false bsM.view.dmaCredit rfl (View.dmaCredit_pos _ (by decide)) (Finset.subset_univ _)) $$ [Hs Hb Hv]
  · isplitl [Hb]; · iexact Hb
    isplitl [Hs]; · iexact Hs
    iexact Hv
  iintro HF
  iapply Hk
  unfold bFly
  isplitl [HF]
  · rw [View.write_whole_univ]; iexact HF
  iexact Hr

theorem wp_waitB (c : Dev nD) (j : Fin 8) (n : ℕ) (k : PP F) (Q : PUnit → sProp 𝕄) :
    iprop(recs m K ∗ bFly m c j ∗ owesE c n ∗ ((bGot m c j ∗ owesE c n) -∗ WP c k Q)) ⊢ WP c (waitB j k) Q := by
  unfold bFly waitB owesE
  iintro ⟨#HR, ⟨HF, Hr⟩, ⟨%W, HO⟩, Hk⟩
  iapply (Transfers.wp_waitLocalO EC 𝒱₀ (c : Thread nD τ) none (sem := cc0_scratch6.sem) (dstw := bsM) false rfl) $$ [HF HO]
  · isplitl [HF]; · iexact HF
    isplitl [HO]; · iexact HO
    iapply (mayWait0 m K c n _ (by rw [ckOf_b]; rfl)); iexact HR
  iintro ⟨⟨Hs, Hb⟩, Hv, HO⟩
  iapply Hk
  isplitr [HO]
  · unfold bGot
    isplitl [Hs]; · iexact Hs
    isplitl [Hb Hr]
    · iapply (pointsTo_split_subset (Finset.subset_univ (bS j).view.set)).2
      isplitl [Hb] <;> iassumption
    iexact Hv
  iexists _; iexact HO

theorem wp_convB (c : Dev nD) (h : Fin 2) (j : Fin 8) (k : PP F) (Q : PUnit → sProp 𝕄) :
    iprop(bGot m c j ∗ bbSt m c j.val h.val ∗ ((bGot m c j ∗ bbSt m c j.val (h.val + 1)) -∗ WP c k Q)) ⊢ WP c (convB h j k) Q := by
  unfold bGot bbSt convB
  iintro ⟨⟨Hs, Hb, Hv⟩, ⟨%f, %hf, Hd⟩, Hk⟩
  iapply (wp_load 𝒱₀ (c : Thread nD τ) none Set.univ (m := bsM) (Finset.subset_univ _)) $$ Hs; iintro Hs
  iapply (wp_load 𝒱₀ (c : Thread nD τ) none Set.univ (m := bbM) (Finset.subset_univ _)) $$ Hd; iintro Hd
  iapply (wp_store 𝒱₀ (c : Thread nD τ) none Set.univ (m := bbM) (r := bbR h j) (Mk := Finset.univ) (Finset.subset_univ _)) $$ Hd; iintro Hd
  iapply Hk
  isplitl [Hs Hb Hv]
  · isplitl [Hs]; · iexact Hs
    isplitl [Hb] <;> iassumption
  iexists _; isplitr
  · ipureintro; exact bF_step m c j h f hf
  iexact Hd

/-! ## The fetches and conversions of `A` -/

/-- The buffer of converted chunks after `n` conversions. -/
def abSt (c : Dev nD) (n : ℕ) : sProp 𝕄 := iprop(∃ f, ⌜aF m c f n⌝ ∗ (abM.view.loc (c : Thread nD τ) ↦{fullShare} f))
/-- No fetch of `A` in flight. -/
def aIdle (c : Dev nD) : sProp 𝕄 :=
  iprop((∃ f, asM.view.loc (c : Thread nD τ) ↦{fullShare} f) ∗ (aM.view.loc (c : Thread nD τ) ↦{fullShare} (A0 m c)) ∗ semVal ((c : Thread nD τ), .dma cc0_scratch5.sem) 0)
/-- The fetch of half `h` of chunk `q` in flight. -/
def aFly (c : Dev nD) (q : Fin 4) (h : Fin 2) : sProp 𝕄 :=
  iprop(Transfers.Flight EC (c : Thread nD τ) (.dma cc0_scratch5.sem) false asM.view.dmaCredit
      iprop((asM.view.loc (c : Thread nD τ) ↦{fullShare} ((aS c q h).view.read (Elt F) (A0 m c))) ∗ ((aS c q h).view.loc (c : Thread nD τ) ↦[(aS c q h).view.set]{fullShare} (A0 m c)))
    ∗ ((aS c q h).view.loc (c : Thread nD τ) ↦[Finset.univ \ (aS c q h).view.set]{fullShare} (A0 m c)))
/-- Half `h` of chunk `q` fetched. -/
def aGot (c : Dev nD) (q : Fin 4) (h : Fin 2) : sProp 𝕄 :=
  iprop((asM.view.loc (c : Thread nD τ) ↦{fullShare} ((aS c q h).view.read (Elt F) (A0 m c))) ∗ (aM.view.loc (c : Thread nD τ) ↦{fullShare} (A0 m c)) ∗ semVal ((c : Thread nD τ), .dma cc0_scratch5.sem) 0)

theorem aGot_idle (c : Dev nD) (q : Fin 4) (h : Fin 2) : aGot m c q h ⊢ aIdle m c := by
  unfold aGot aIdle; iintro ⟨H, H1, H2⟩
  isplitl [H]; · iexists _; iexact H
  isplitl [H1] <;> iassumption

theorem wp_fetchA (c : Dev nD) (q : Fin 4) (h : Fin 2) (k : PP F) (Q : PUnit → sProp 𝕄) :
    iprop(aIdle m c ∗ (aFly m c q h -∗ WP c k Q)) ⊢ WP c (fetchA c q h k) Q := by
  unfold aIdle fetchA
  iintro ⟨⟨⟨%f, Hs⟩, Hb, Hv⟩, Hk⟩
  ihave Hb' := (pointsTo_split_subset (Finset.subset_univ (aS c q h).view.set)).1 $$ Hb
  icases Hb' with ⟨Hb, Hr⟩
  iapply (Transfers.wp_dmaLocal EC 𝒱₀ (c : Thread nD τ) none (src := aS c q h) (dst := asM) (sm := .dma cc0_scratch5.sem) (Sd := Finset.univ) false asM.view.dmaCredit rfl (View.dmaCredit_pos _ (by decide)) (Finset.subset_univ _)) $$ [Hs Hb Hv]
  · isplitl [Hb]; · iexact Hb
    isplitl [Hs]; · iexact Hs
    iexact Hv
  iintro HF
  iapply Hk
  unfold aFly
  isplitl [HF]
  · rw [View.write_whole_univ]; iexact HF
  iexact Hr

theorem wp_waitA (c : Dev nD) (q : Fin 4) (h : Fin 2) (n : ℕ) (k : PP F) (Q : PUnit → sProp 𝕄) :
    iprop(recs m K ∗ aFly m c q h ∗ owesE c n ∗ ((aGot m c q h ∗ owesE c n) -∗ WP c k Q)) ⊢ WP c (waitA c q h k) Q := by
  unfold aFly waitA owesE
  iintro ⟨#HR, ⟨HF, Hr⟩, ⟨%W, HO⟩, Hk⟩
  iapply (Transfers.wp_waitLocalO EC 𝒱₀ (c : Thread nD τ) none (sem := cc0_scratch5.sem) (dstw := asM) false rfl) $$ [HF HO]
  · isplitl [HF]; · iexact HF
    isplitl [HO]; · iexact HO
    iapply (mayWait0 m K c n _ (by rw [ckOf_a]; rfl)); iexact HR
  iintro ⟨⟨Hs, Hb⟩, Hv, HO⟩
  iapply Hk
  isplitr [HO]
  · unfold aGot
    isplitl [Hs]; · iexact Hs
    isplitl [Hb Hr]
    · iapply (pointsTo_split_subset (Finset.subset_univ (aS c q h).view.set)).2
      isplitl [Hb] <;> iassumption
    iexact Hv
  iexists _; iexact HO

theorem wp_convA (c : Dev nD) (n : ℕ) (q : Fin 4) (s : Fin 3) (h : Fin 2) (hk : q.val = n / 2) (hh : h.val = n % 2) (hs : s.val = min (n / 2) 2)
    (k : PP F) (Q : PUnit → sProp 𝕄) :
    iprop(aGot m c q h ∗ abSt m c n ∗ ((aGot m c q h ∗ abSt m c (n + 1)) -∗ WP c k Q)) ⊢ WP c (convA s h k) Q := by
  unfold aGot abSt convA
  iintro ⟨⟨Hs, Hb, Hv⟩, ⟨%f, %hf, Hd⟩, Hk⟩
  iapply (wp_load 𝒱₀ (c : Thread nD τ) none Set.univ (m := asM) (Finset.subset_univ _)) $$ Hs; iintro Hs
  rw [as_load]
  iapply (wp_load 𝒱₀ (c : Thread nD τ) none Set.univ (m := abM) (Finset.subset_univ _)) $$ Hd; iintro Hd
  iapply (wp_store 𝒱₀ (c : Thread nD τ) none Set.univ (m := abM) (r := abR s h) (Mk := Finset.univ) (Finset.subset_univ _)) $$ Hd; iintro Hd
  iapply Hk
  isplitl [Hs Hb Hv]
  · isplitl [Hs]; · iexact Hs
    isplitl [Hb] <;> iassumption
  iexists _; isplitr
  · ipureintro; exact aF_step m c n q h s hk hh hs f hf
  iexact Hd

/-! ## The products -/

theorem wp_loadAB (c : Dev nD) (st : Fin 4) (j : Fin 8) (n nb hb : ℕ) (hn : 2 * (kOf st j).val + 2 ≤ n) (hov : 2 ≤ (kOf st j).val → n ≤ 2 * (kOf st j).val + 2)
    (hj : j.val < nb) (k : Vec F S1x1024x2048 .bf16 → Vec F S2048x512 .bf16 → PP F) (Q : PUnit → sProp 𝕄) :
    iprop(abSt m c n ∗ bbSt m c nb hb ∗ ((abSt m c n ∗ bbSt m c nb hb) -∗
        WP c (k (abM.view.readAt (Elt F) (abR' (slOf st j)).toLoadRect (At m c (kOf st j))) (bbM.view.readAt (Elt F) (bbR' j).toLoadRect (Bt m c))) Q))
      ⊢ WP c (loadAB (slOf st j) j k) Q := by
  unfold abSt bbSt loadAB
  iintro ⟨⟨%f, %hf, Ha⟩, ⟨%g, %hg, Hb⟩, Hk⟩
  iapply (wp_load 𝒱₀ (c : Thread nD τ) none Set.univ (m := abM) (Finset.subset_univ _)) $$ Ha; iintro Ha
  rw [aF_read m c n (slOf st j) (kOf st j) f hf (stage_slot st j) hn hov]
  iapply (wp_load 𝒱₀ (c : Thread nD τ) none Set.univ (m := bbM) (Finset.subset_univ _)) $$ Hb; iintro Hb
  rw [bF_read m c nb hb j hj g hg]
  iapply Hk
  isplitl [Ha]
  · iexists f; isplitr; · (ipureintro; exact hf)
    iexact Ha
  · iexists g; isplitr; · (ipureintro; exact hg)
    iexact Hb

theorem wp_storeC (c : Dev nD) (s : Fin 2) (j : Fin 8) (v : FVec F S1024x512 .bf16) (k : PP F) (Q : PUnit → sProp 𝕄) :
    iprop(stripE c s j ∗ (strip c s j v -∗ WP c k Q)) ⊢ WP c (storeC s j (shapeCast S1x1x1024x512 v shapeCasts_S1024x512_S1x1x1024x512) k) Q := by
  unfold stripE storeC
  iintro ⟨⟨%f, H⟩, Hk⟩
  iapply (wp_load 𝒱₀ (c : Thread nD τ) none Set.univ (m := cmM) (cm_sub s j)) $$ H; iintro H
  iapply (wp_store 𝒱₀ (c : Thread nD τ) none Set.univ (m := cmM) (r := cmR s j) (Mk := Finset.univ) (cm_sub' s j)) $$ H; iintro H
  iapply Hk
  unfold strip
  iexists _; isplitr
  · ipureintro; exact cm_store s j f v
  iexact H

end Cert.KernelIdealProof
-- ==== Proof.KernelIdeal.Comm.lean ====
/- What each step that involves other devices does: copies, receives, credits, the two barriers; and the copies out. -/
module

public import proofs.«01_k».proof.Proof.KernelIdeal.Steps

@[expose] public section

noncomputable section

namespace Cert.KernelIdealProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Bool (Elt F) ℕ UU ℕ

variable (m : (ℓ : Loc nD τ sig) → Buf (Elt F) ℓ) (K : Dev nD × CK → ℕ)

theorem mem_duty (c : Dev nD) (k : CK) (hk : k ≠ .bar) : false ∈ (Rd (F := F) m).duties (cell c k) 0 := by
  rw [Rd_duties]; cases k <;> first | exact absurd rfl hk | exact Finset.mem_singleton_self _
theorem mem_duty_bar (c : Dev nD) (r : ℕ) (hr : r < 2) (d : Bool) : d ∈ (Rd (F := F) m).duties (cell c .bar) r := by
  rw [Rd_duties]; show d ∈ (if r < 2 then (Finset.univ : Finset Bool) else ∅); rw [if_pos hr]; exact Finset.mem_univ _

/-! ## Copies to the next device -/

theorem wp_send_at (c : Dev nD) (h : Fin 3) (j : Fin 8) (s s' : Fin 2) (hs : s = sideS h) (hs' : s' = sideD h) (d : Dev nD) (hd : d = dn j c)
    {hsc : (cmS s' j : Memref sig (Dev.tc d : Thread nD τ).2.kind .vmem S1024x512 .bf16).view.ref.isScScratch = false}
    {hsrc : (cmS s j).view.WordExact} {hdst : (cmS s' j : Memref sig (Dev.tc d : Thread nD τ).2.kind .vmem S1024x512 .bf16).view.WordExact}
    {hsem : DmaTarget.Typed .vmem (.dma (recvS h j)) (.remote (Dev.tc d : Thread nD τ) (cmS s' j) (.dma (sendS h j)) hsc)}
    {k : PUnit → PP F} {Q : PUnit → sProp 𝕄} (n : ℕ) (hn : n < 44) (hi : item c n = (cell (dn j c) (.recv h j), false, N))
    (fs : Buf (Elt F) ((cmS s j).view.loc (c : Thread nD τ))) (hfs : (cmS s j).view.read (Elt F) fs = accV m j h.val c)
    (fd : Buf (Elt F) ((cmS s' j).view.loc (dn j c : Thread nD τ))) (W : Waits sig Bool) :
    iprop(cellInv ER (Rd m) (K (c, .send h j)) (cell c (.send h j)) ∗ cellInv ER (Rd m) (K (dn j c, .recv h j)) (cell (dn j c) (.recv h j))
        ∗ ((cmS s j).view.loc (c : Thread nD τ) ↦[(cmS s j).view.set]{fullShare} fs)
        ∗ ((cmS s' j).view.loc (dn j c : Thread nD τ) ↦[(cmS s' j).view.set]{fullShare} fd)
        ∗ owes (c : Thread nD τ) (Ow c n) W
        ∗ dutyTok ER (cell c (.send h j)) 0 false ∗ reached ER (cell c (.send h j)) 0
        ∗ dutyTok ER (cell (dn j c) (.recv h j)) 0 false ∗ reached ER (cell (dn j c) (.recv h j)) 0)
      ⊢ iprop(((cred (tallyAt (cell c (.send h j)) false N) ∗ owes (c : Thread nD τ) (Ow c (n + 1)) W) -∗ WP c (k ⟨⟩) Q)
          -∗ WP c (.op (.enqueueDma (cmS s j) (.remote (Dev.tc d : Thread nD τ) (cmS s' j) (.dma (sendS h j)) hsc) (.dma (recvS h j)) hsrc hdst hsem) k) Q) := by
  subst hd hs hs'
  exact Rounds.wp_send_pointsTo 𝒱₀ ER (Rd m) (c : Thread nD τ) none (κ₁ := K (c, .send h j)) (κ₂ := K (dn j c, .recv h j))
    (r₁ := 0) (r₂ := 0) (d₁ := false) (d₂ := false) (fd := fd)
    (mem_duty m c (.send h j) (by intro h; cases h)) (mem_duty m (dn j c) (.recv h j) (by intro h; cases h))
    false false N rfl (Rd_amount m c (.send h j) 0 false) (Rd_amount m (dn j c) (.recv h j) 0 false)
    (Ow c (n + 1)) (by rw [Ow_step c n hn, hi]) (W := W)
    (by
      refine BIBase.Entails.trans ?_ (Entails.of_eq (Rd_payload m c (.send h j) 0 false).symm)
      show _ ⊢ stripE c (sideS h) j
      unfold stripE; iintro H; iexists fs; iexact H)
    (by
      refine BIBase.Entails.trans ?_ (Entails.of_eq (Rd_payload m (dn j c) (.recv h j) 0 false).symm)
      show _ ⊢ strip (dn j c) (sideD h) j (accV m j h.val (up j (dn j c)))
      rw [up_dn]
      unfold strip; iintro H; iexists _; isplitr
      · ipureintro; exact (View.read_write_univ (Val := Elt F) (v := (cmS (sideD h) j).view) fd _).trans hfs
      iexact H)

/-- The copy of hop `h` of strip `j`, issued as the `n`-th of the core's signals. -/
theorem wp_sendC (c : Dev nD) (h : Fin 3) (j : Fin 8) (s s' : Fin 2) (hs : s = sideS h) (hs' : s' = sideD h) (n : ℕ) (hn : n < 44) (hi : item c n = (cell (dn j c) (.recv h j), false, N)) (k : PP F) (Q : PUnit → sProp 𝕄) :
    iprop(recs m K ∗ strip c (sideS h) j (accV m j h.val c) ∗ stripE (dn j c) (sideD h) j ∗ owesE c n
        ∗ dutyTok ER (cell c (.send h j)) 0 false ∗ dutyTok ER (cell (dn j c) (.recv h j)) 0 false
        ∗ ((cred (tallyAt (cell c (.send h j)) false N) ∗ owesE c (n + 1)) -∗ WP c k Q))
      ⊢ WP c (sendC c h s s' j k) Q := by
  subst hs hs'
  unfold strip stripE owesE sendC
  iintro ⟨#HR, ⟨%fs, %hfs, Hs⟩, ⟨%fd, Hd⟩, ⟨%W, HO⟩, Ht, Ht', Hk⟩
  iapply (wp_send_at m K c h j (sideS h) (sideD h) rfl rfl _ (sendDev_eq c h j) n hn hi fs hfs fd W) $$ [Hs Hd HO Ht Ht']
  · isplitr; · iapply (recs_inv m K c (.send h j)); iexact HR
    isplitr; · iapply (recs_inv m K (dn j c) (.recv h j)); iexact HR
    isplitl [Hs]; · iexact Hs
    isplitl [Hd]; · iexact Hd
    isplitl [HO]; · iexact HO
    isplitl [Ht]; · iexact Ht
    isplitr; · iapply (recs_reached m K c (.send h j)); iexact HR
    isplitl [Ht']; · iexact Ht'
    iapply (recs_reached m K (dn j c) (.recv h j)); iexact HR
  iintro ⟨Hc, HO⟩
  iapply Hk
  isplitl [Hc]; · iexact Hc
  iexists W; iexact HO

/-! ## Waits -/

/-- A wait for the one round of a shared cell that is not the barrier: its payload, and the cell closed at zero. -/
theorem wp_wait_at (c : Dev nD) (q : CK) (hq : q ≠ .bar) (n : ℕ) (hl : ∀ i, n ≤ i → i < 44 → lvK (some q) false < lvI i)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem q) (amtOf q) K)
    (k : PUnit → PP F) (Q : PUnit → sProp 𝕄) :
    iprop(recs m K ∗ cred (tallyAt (cell c q) false (amtOf q)) ∗ atPos ER (cell c q) 0 ∅ 0 ∗ owesE c n
        ∗ ((payOf m c q 0 false ∗ semVal (cell c q) 0 ∗ owesE c n) -∗ WP c (k ⟨⟩) Q))
      ⊢ WP c (.op w k) Q := by
  unfold owesE
  iintro ⟨#HR, Hc, Hat, ⟨%W, HO⟩, Hk⟩
  iapply (Rounds.wp_wait_rest_token 𝒱₀ ER (Rd m) (c : Thread nD τ) none (κ := K (c, q))
      hw (Set.mem_univ _) false (O := Ow c n) (W := W) (R := 0) (m := 0) (T := ∅)
      (by rw [Nat.zero_add]; exact (Rd_expect_one m c q hq).symm)) $$ [Hc HO Hat]
  · isplitr; · iapply (recs_inv m K c q); iexact HR
    isplitl [Hc]; · iexact Hc
    isplitl [HO]; · iexact HO
    isplitr
    · iapply (mayWait c n (csem q) false (by rw [ckOf_csem]; exact hl)); iapply (recs_lev m K); iexact HR
    iexact Hat
  iintro ⟨HO, Hat, -, Hpay⟩
  ihave Hp := (Entails.of_eq (rest_one m c q hq)) $$ Hpay
  imod (Rounds.cell_close ER (Rd m) (Set.mem_univ (K (c, q))) (fun h => h) (R := 0 + 1) (fun r hr => Rd_later m c q r (by rw [if_neg hq]; exact hr))) $$ [Hat] with Hz
  · isplitr; · iapply (recs_inv m K c q); iexact HR
    iexact Hat
  iapply Hk
  isplitl [Hp]; · iexact Hp
  isplitl [Hz]; · iexact Hz
  iexists _; iexact HO

theorem wp_waitRecv (c : Dev nD) (h : Fin 3) (j : Fin 8) (s s' : Fin 2) (n : ℕ) (hl : ∀ i, n ≤ i → i < 44 → 10 * h.val + 2 < lvI i)
    (k : PP F) (Q : PUnit → sProp 𝕄) :
    iprop(recs m K ∗ cred (tallyAt (cell c (.recv h j)) false N) ∗ atPos ER (cell c (.recv h j)) 0 ∅ 0 ∗ owesE c n
        ∗ ((strip c (sideD h) j (accV m j h.val (up j c)) ∗ semVal (cell c (.recv h j)) 0 ∗ owesE c n) -∗ WP c k Q))
      ⊢ WP c (waitRecv h s s' j k) Q := by
  unfold waitRecv
  refine wp_wait_at m K c (.recv h j) (by intro h; cases h) n hl ?_ (fun _ => k) Q
  exact wpE_waitDma2_eq 𝒱₀ (c : Thread nD τ) none Set.univ

theorem lvI_pos (i : ℕ) : 0 < lvI i := by
  unfold lvI
  split
  · decide
  split
  · decide
  split
  · split <;> omega
  · decide

theorem wp_waitSend (c : Dev nD) (h : Fin 3) (j : Fin 8) (s s' : Fin 2) (n : ℕ) (k : PP F) (Q : PUnit → sProp 𝕄) :
    iprop(recs m K ∗ cred (tallyAt (cell c (.send h j)) false N) ∗ atPos ER (cell c (.send h j)) 0 ∅ 0 ∗ owesE c n
        ∗ ((stripE c (sideS h) j ∗ semVal (cell c (.send h j)) 0 ∗ owesE c n) -∗ WP c k Q))
      ⊢ WP c (waitSend h s s' j k) Q := by
  unfold waitSend
  refine wp_wait_at m K c (.send h j) (by intro h; cases h) n (fun i _ _ => lvI_pos i) ?_ (fun _ => k) Q
  exact wpE_waitDma2_eq 𝒱₀ (c : Thread nD τ) none Set.univ

theorem wp_waitCred (c : Dev nD) (h : Fin 2) (j : Fin 8) (n : ℕ) (hl : ∀ i, n ≤ i → i < 44 → 10 * h.val + 3 + j.val < lvI i) (k : PP F) (Q : PUnit → sProp 𝕄) :
    iprop(recs m K ∗ cred (tallyAt (cell c (.cred h j)) false 1) ∗ atPos ER (cell c (.cred h j)) 0 ∅ 0 ∗ owesE c n
        ∗ ((iprop(stripE (dn j c) (sideD h.succ) j ∗ reached ER (cell (dn j c) .bar) 1) ∗ semVal (cell c (.cred h j)) 0 ∗ owesE c n) -∗ WP c k Q))
      ⊢ WP c (waitCred h j k) Q := by
  unfold waitCred
  refine wp_wait_at m K c (.cred h j) (by intro h; cases h) n hl ?_ (fun _ => k) Q
  exact wpE_semWait_eq 𝒱₀ (c : Thread nD τ) none Set.univ

/-! ## Signals -/

theorem wp_sig_at (c d e : Dev nD) (he : e = d) (q : CK) (sm : Sem sig) (hsm : csem q = .reg sm) (r : ℕ) (u : Bool) (hu : u ∈ (Rd (F := F) m).duties (cell d q) r) (ha : amtOf q = 1)
    (n : ℕ) (hn : n < 44) (ι : Bool) (hi : item c n = (cell d q, ι, 1)) (k : PUnit → PP F) (Q : PUnit → sProp 𝕄) :
    iprop(recs m K ∗ reached ER (cell d q) r ∗ dutyTok ER (cell d q) r u ∗ payOf m d q r u ∗ owesE c n ∗ (owesE c (n + 1) -∗ WP c (k ⟨⟩) Q))
      ⊢ WP c (.op (.semSignal (e, .tc) sm (1#32 : BitVec 32).toInt) k) Q := by
  subst he
  unfold owesE
  iintro ⟨#HR, Hr, Ht, Hp, ⟨%W, HO⟩, Hk⟩
  have hE : cell e q = ((e : Thread nD τ), SemLoc.reg sm) := by show ((e : Thread nD τ), csem q) = _; rw [hsm]
  have hinv := recs_inv (F := F) m K e q
  have hpay := (Rd_payload (F := F) m e q r u)
  have ham := (Rd_amount (F := F) m e q r u)
  have hO : Ow c n = Ow c (n + 1) + tallyAt (cell e q) ι 1 := by rw [Ow_step c n hn, hi]
  rw [hE] at hinv hpay ham hu hO ⊢
  iapply (Rounds.wp_signal 𝒱₀ ER (Rd m) (c : Thread nD τ) none (dst := (e : Thread nD τ)) (κ := K (e, q)) (r := r)
      (d := u) hu (ham.trans (ha.trans (by decide))) ι (Ow c (n + 1)) hO)
    $$ [HO Ht Hp Hr]
  · isplitr; · iapply hinv; iexact HR
    isplitl [HO]; · iexact HO
    isplitl [Ht]; · iexact Ht
    isplitl [Hp]; · iapply (Entails.of_eq hpay.symm); iexact Hp
    iexact Hr
  iintro HO
  iapply Hk
  iexists W; iexact HO

omit [FloatOps F] in
theorem credPay_up (c : Dev nD) (h : Fin 2) (j : Fin 8) :
    credPay (F := F) (up j c) h j = iprop(stripE c (sideD h.succ) j ∗ reached ER (cell c .bar) 1) := by
  unfold credPay; rw [dn_up]

/-- The credit of hop `h` of strip `j`, to the device the strip comes from. -/
theorem wp_sigCred (c : Dev nD) (h : Fin 2) (j : Fin 8) (n : ℕ) (hn : n < 44) (hi : item c n = (cell (up j c) (.cred h j), false, 1)) (k : PP F) (Q : PUnit → sProp 𝕄) :
    iprop(recs m K ∗ dutyTok ER (cell (up j c) (.cred h j)) 0 false ∗ stripE c (sideD h.succ) j ∗ reached ER (cell c .bar) 1 ∗ owesE c n
        ∗ (owesE c (n + 1) -∗ WP c k Q))
      ⊢ WP c (sigCred c h j k) Q := by
  unfold sigCred
  iintro ⟨#HR, Ht, Hs, Hb, HO, Hk⟩
  iapply (wp_sig_at m K c (up j c) _ (credDev_eq c h j) (.cred h j) (credS h j) rfl 0 false (mem_duty m (up j c) (.cred h j) (by intro h; cases h)) rfl n hn false hi)
  isplitr; · iexact HR
  isplitr; · iapply (recs_reached m K (up j c) (.cred h j)); iexact HR
  isplitl [Ht]; · iexact Ht
  isplitl [Hs Hb]
  · iapply (Entails.of_eq (show payOf m (up j c) (.cred h j) 0 false = _ from credPay_up c h j).symm)
    isplitl [Hs] <;> iassumption
  isplitl [HO]; · iexact HO
  iexact Hk

/-! ## The barriers -/

/-- A barrier: round `r` of the barrier cells. -/
theorem wp_barrier (c l r' : Dev nD) (hl : l = prv c) (hr' : r' = nxt c) (r n : ℕ) (hr : r < 2) (hn : n + 1 < 44) (ι : Bool)
    (h0 : item c n = (cell (prv c) .bar, ι, 1)) (h1 : item c (n + 1) = (cell (nxt c) .bar, ι, 1))
    (d0 d1 : Bool) (hlv : ∀ i, n + 2 ≤ i → i < 44 → lvK (some .bar) ι < lvI i) (k : PP F) (Q : PUnit → sProp 𝕄) :
    iprop(recs m K ∗ (reached ER (cell (prv c) .bar) r ∗ dutyTok ER (cell (prv c) .bar) r d0 ∗ payOf m (prv c) .bar r d0)
        ∗ (reached ER (cell (nxt c) .bar) r ∗ dutyTok ER (cell (nxt c) .bar) r d1 ∗ payOf m (nxt c) .bar r d1)
        ∗ cred (tallyAt (cell c .bar) ι 2) ∗ atPos ER (cell c .bar) r ∅ 0 ∗ owesE c n
        ∗ ((atPos ER (cell c .bar) (r + 1) ∅ 0 ∗ reached ER (cell c .bar) (r + 1)
            ∗ (bigSep ((Rd (F := F) m).duties (cell c .bar) r \ ∅) fun d => (Rd (F := F) m).payload (cell c .bar) r d) ∗ owesE c (n + 2)) -∗ WP c k Q))
      ⊢ WP c (barrierP l r' k) Q := by
  unfold barrierP
  iintro ⟨#HR, ⟨Hr0, Ht0, Hp0⟩, ⟨Hr1, Ht1, Hp1⟩, Hc, Hat, HO, Hk⟩
  iapply (wp_sig_at m K c (prv c) l hl .bar barS rfl r d0 (mem_duty_bar m _ r hr d0) rfl n (by omega) ι h0)
  isplitr; · iexact HR
  isplitl [Hr0]; · iexact Hr0
  isplitl [Ht0]; · iexact Ht0
  isplitl [Hp0]; · iexact Hp0
  isplitl [HO]; · iexact HO
  iintro HO
  iapply (wp_sig_at m K c (nxt c) r' hr' .bar barS rfl r d1 (mem_duty_bar m _ r hr d1) rfl (n + 1) hn ι h1)
  isplitr; · iexact HR
  isplitl [Hr1]; · iexact Hr1
  isplitl [Ht1]; · iexact Ht1
  isplitl [Hp1]; · iexact Hp1
  isplitl [HO]; · iexact HO
  iintro HO
  unfold owesE
  icases HO with ⟨%W, HO⟩
  iapply (Rounds.wp_wait_rest_token 𝒱₀ ER (Rd m) (c : Thread nD τ) none (κ := K (c, .bar))
      (wpE_semWait_eq 𝒱₀ (c : Thread nD τ) none Set.univ) (Set.mem_univ _) ι (O := Ow c (n + 2)) (W := W) (R := r) (m := 0) (T := ∅)
      (by rw [Nat.zero_add]; exact (Rd_expect_bar m c r hr).symm)) $$ [Hc HO Hat]
  · isplitr; · iapply (recs_inv m K c .bar); iexact HR
    isplitl [Hc]; · iexact Hc
    isplitl [HO]; · iexact HO
    isplitr
    · iapply (mayWait c (n + 2) (csem .bar) ι (by rw [ckOf_csem]; exact hlv)); iapply (recs_lev m K); iexact HR
    iexact Hat
  iintro ⟨HO, Hat, Hre, Hpay⟩
  iapply Hk
  isplitl [Hat]; · iexact Hat
  isplitl [Hre]; · iexact Hre
  isplitl [Hpay]; · iexact Hpay
  iexists _; iexact HO

/-! ## The copies out -/

/-- The output columns of strip `j`, holding `v`; or anything. -/
def outS (c : Dev nD) (j : Fin 8) (v : S1024x512.Idx → Elt F .bf16) : sProp 𝕄 :=
  iprop(∃ f, ⌜(oS j).view.read (Elt F) f = v⌝ ∗ ((oS j).view.loc (c : Thread nD τ) ↦[(oS j).view.set]{fullShare} f))
def outE (c : Dev nD) (j : Fin 8) : sProp 𝕄 :=
  iprop((∃ f, ((oS j).view.loc (c : Thread nD τ) ↦[(oS j).view.set]{fullShare} f)) ∗ semVal ((c : Thread nD τ), .dma (outSm j)) 0)
/-- The copy of strip `j` to the output in flight. -/
def outFly (c : Dev nD) (j : Fin 8) (v : S1024x512.Idx → Elt F .bf16) : sProp 𝕄 :=
  iprop(∃ fs fd, ⌜(cmS 1 j).view.read (Elt F) fs = v⌝ ∗ Transfers.Flight EC (c : Thread nD τ) (.dma (outSm j)) false (oS j).view.dmaCredit
      iprop(((oS j).view.loc (c : Thread nD τ) ↦[(oS j).view.set]{fullShare} ((oS j).view.write (Elt F) fd ((cmS 1 j).view.read (Elt F) fs) Finset.univ))
        ∗ ((cmS 1 j).view.loc (c : Thread nD τ) ↦[(cmS 1 j).view.set]{fullShare} fs)))

theorem wp_startOut (c : Dev nD) (j : Fin 8) (v : S1024x512.Idx → Elt F .bf16) (k : PP F) (Q : PUnit → sProp 𝕄) :
    iprop(strip c 1 j v ∗ outE c j ∗ (outFly c j v -∗ WP c k Q)) ⊢ WP c (startOut j k) Q := by
  unfold strip outE startOut
  iintro ⟨⟨%fs, %hfs, Hs⟩, ⟨⟨%fd, Hd⟩, Hv⟩, Hk⟩
  iapply (Transfers.wp_dmaLocal EC 𝒱₀ (c : Thread nD τ) none (src := cmS 1 j) (dst := oS j) (sm := .dma (outSm j)) (Sd := (oS j).view.set) false (oS j).view.dmaCredit rfl (View.dmaCredit_pos _ (by decide)) subset_rfl) $$ [Hs Hd Hv]
  · isplitl [Hs]; · iexact Hs
    isplitl [Hd]; · iexact Hd
    iexact Hv
  iintro HF
  iapply Hk
  unfold outFly
  iexists fs, fd; isplitr; · (ipureintro; exact hfs)
  iexact HF

theorem wp_waitOut (c : Dev nD) (j : Fin 8) (v : S1024x512.Idx → Elt F .bf16) (n : ℕ) (k : PP F) (Q : PUnit → sProp 𝕄) :
    iprop(recs m K ∗ outFly c j v ∗ owesE c n ∗ ((outS c j v ∗ stripE c 1 j ∗ semVal ((c : Thread nD τ), .dma (outSm j)) 0 ∗ owesE c n) -∗ WP c k Q))
      ⊢ WP c (waitOut j k) Q := by
  unfold outFly owesE waitOut
  iintro ⟨#HR, ⟨%fs, %fd, %hfs, HF⟩, ⟨%W, HO⟩, Hk⟩
  iapply (Transfers.wp_waitLocalO EC 𝒱₀ (c : Thread nD τ) none (sem := outSm j) (dstw := oS j) false rfl) $$ [HF HO]
  · isplitl [HF]; · iexact HF
    isplitl [HO]; · iexact HO
    iapply (mayWait0 m K c n _ (by rw [ckOf_out]; rfl)); iexact HR
  iintro ⟨⟨Hd, Hs⟩, Hv, HO⟩
  iapply Hk
  isplitl [Hd]
  · unfold outS
    iexists _; isplitr
    · ipureintro; exact (View.read_write_univ (Val := Elt F) (v := (oS j).view) fd _).trans hfs
    iexact Hd
  isplitl [Hs]
  · unfold stripE; iexists fs; iexact Hs
  isplitl [Hv]; · iexact Hv
  iexists _; iexact HO

end Cert.KernelIdealProof
-- ==== Proof.KernelIdeal.Body.lean ====
/- The whole body: what is held for each strip before and after each loop, each loop by one lemma about its strip,
   and the body from what the launch hands a core to what it leaves. -/
module

public import proofs.«01_k».proof.Proof.KernelIdeal.Comm

@[expose] public section

noncomputable section

namespace Cert.KernelIdealProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Bool (Elt F) ℕ UU ℕ

variable (m : (ℓ : Loc nD τ sig) → Buf (Elt F) ℓ) (K : Dev nD × CK → ℕ)

/-! ## A loop over the strips -/

/-- A loop over the strips: `Sh` is what the loop carries from strip to strip, `T` and `T'` what each strip needs and leaves. -/
theorem wp_forJ (c : Dev nD) (f : Fin 8 → PP F → PP F) (Sh : ℕ → sProp 𝕄) (T T' : Fin 8 → sProp 𝕄)
    (hf : ∀ (j : Fin 8) (k : PP F) (Q : PUnit → sProp 𝕄), iprop(Sh j.val ∗ T j ∗ ((Sh (j.val + 1) ∗ T' j) -∗ WP c k Q)) ⊢ WP c (f j k) Q)
    (k : PP F) (Q : PUnit → sProp 𝕄) :
    iprop(Sh 0 ∗ bigSep Finset.univ T ∗ ((Sh 8 ∗ bigSep Finset.univ T') -∗ WP c k Q)) ⊢ WP c (forJ f k) Q := by
  have e : ∀ T : Fin 8 → sProp 𝕄, bigSep Finset.univ T = iprop(T ⟨0, by decide⟩ ∗ T ⟨1, by decide⟩ ∗ T ⟨2, by decide⟩ ∗ T ⟨3, by decide⟩ ∗ T ⟨4, by decide⟩ ∗ T ⟨5, by decide⟩ ∗ T ⟨6, by decide⟩ ∗ T ⟨7, by decide⟩) := fun T => by
    rw [bigSep_univ_eq_bigSepL [(0 : Fin 8), 1, 2, 3, 4, 5, 6, 7] (by decide) (by decide)]
    simp only [bigSepL_cons_cons, bigSepL_singleton]
    rfl
  rw [e T, e T']
  unfold forJ
  iintro ⟨HS, ⟨H0, H1, H2, H3, H4, H5, H6, H7⟩, Hk⟩
  iapply (hf _ _ Q); isplitl [HS]; · iexact HS
  isplitl [H0]; · iexact H0
  iintro ⟨HS, H0⟩
  iapply (hf _ _ Q); isplitl [HS]; · iexact HS
  isplitl [H1]; · iexact H1
  iintro ⟨HS, H1⟩
  iapply (hf _ _ Q); isplitl [HS]; · iexact HS
  isplitl [H2]; · iexact H2
  iintro ⟨HS, H2⟩
  iapply (hf _ _ Q); isplitl [HS]; · iexact HS
  isplitl [H3]; · iexact H3
  iintro ⟨HS, H3⟩
  iapply (hf _ _ Q); isplitl [HS]; · iexact HS
  isplitl [H4]; · iexact H4
  iintro ⟨HS, H4⟩
  iapply (hf _ _ Q); isplitl [HS]; · iexact HS
  isplitl [H5]; · iexact H5
  iintro ⟨HS, H5⟩
  iapply (hf _ _ Q); isplitl [HS]; · iexact HS
  isplitl [H6]; · iexact H6
  iintro ⟨HS, H6⟩
  iapply (hf _ _ Q); isplitl [HS]; · iexact HS
  isplitl [H7]; · iexact H7
  iintro ⟨HS, H7⟩
  iapply Hk
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## What is held for a strip -/

/-- Hop `h` not begun: the positions of its two cells, the credit of its receive, the right to signal its send and the
    next device's receive. -/
def pend (c : Dev nD) (h : Fin 3) (j : Fin 8) : sProp 𝕄 :=
  iprop(atPos ER (cell c (.send h j)) 0 ∅ 0 ∗ atPos ER (cell c (.recv h j)) 0 ∅ 0 ∗ cred (tallyAt (cell c (.recv h j)) false N)
    ∗ dutyTok ER (cell c (.send h j)) 0 false ∗ dutyTok ER (cell (dn j c) (.recv h j)) 0 false)
/-- The credit of hop `h` neither given nor taken. -/
def pendC (c : Dev nD) (h : Fin 2) (j : Fin 8) : sProp 𝕄 :=
  iprop(atPos ER (cell c (.cred h j)) 0 ∅ 0 ∗ cred (tallyAt (cell c (.cred h j)) false 1) ∗ dutyTok ER (cell (up j c) (.cred h j)) 0 false)
/-- Hop `h`'s copy sent, and neither wait done. -/
def fl (c : Dev nD) (h : Fin 3) (j : Fin 8) : sProp 𝕄 :=
  iprop(atPos ER (cell c (.send h j)) 0 ∅ 0 ∗ atPos ER (cell c (.recv h j)) 0 ∅ 0 ∗ cred (tallyAt (cell c (.recv h j)) false N)
    ∗ cred (tallyAt (cell c (.send h j)) false N))
/-- Hop `h` done: its two cells at zero. -/
def zs (c : Dev nD) (h : Fin 3) (j : Fin 8) : sProp 𝕄 := iprop(semVal (cell c (.send h j)) 0 ∗ semVal (cell c (.recv h j)) 0)
def zc (c : Dev nD) (h : Fin 2) (j : Fin 8) : sProp 𝕄 := semVal (cell c (.cred h j)) 0
/-- The device the strip goes to is past the entry barrier. -/
def rb (c : Dev nD) (j : Fin 8) : sProp 𝕄 := reached ER (cell (dn j c) .bar) 1

instance rb_persistent (c : Dev nD) (j : Fin 8) : BI.Persistent (rb (F := F) c j) := by unfold rb; infer_instance

/-- A strip at the start, but for the next device's buffer. -/
def Pst (c : Dev nD) (j : Fin 8) : sProp 𝕄 := iprop((pend c 0 j ∗ pend c 1 j ∗ pend c 2 j ∗ pendC c 0 j ∗ pendC c 1 j ∗ outE c j) ∗ stripE c 0 j)
/-- After the entry barrier; after the first stage; after each hop; after the waits for the output. -/
def P0 (c : Dev nD) (j : Fin 8) : sProp 𝕄 := iprop(Pst c j ∗ stripE (dn j c) 1 j)
def P1 (c : Dev nD) (j : Fin 8) : sProp 𝕄 := iprop(fl c 0 j ∗ pend c 1 j ∗ pend c 2 j ∗ pendC c 0 j ∗ pendC c 1 j ∗ outE c j)
def P2 (c : Dev nD) (j : Fin 8) : sProp 𝕄 := iprop((zs c 0 j ∗ zc c 0 j ∗ rb c j) ∗ fl c 1 j ∗ pend c 2 j ∗ pendC c 1 j ∗ outE c j)
def P3 (c : Dev nD) (j : Fin 8) : sProp 𝕄 := iprop(((zs c 0 j ∗ zc c 0 j ∗ rb c j) ∗ zs c 1 j ∗ zc c 1 j) ∗ fl c 2 j ∗ outE c j)
def P4 (c : Dev nD) (j : Fin 8) : sProp 𝕄 := iprop((((zs c 0 j ∗ zc c 0 j ∗ rb c j) ∗ zs c 1 j ∗ zc c 1 j) ∗ zs c 2 j ∗ stripE c 0 j) ∗ outFly c j (accV m j 3 c))
def P5 (c : Dev nD) (j : Fin 8) : sProp 𝕄 :=
  iprop((((zs c 0 j ∗ zc c 0 j ∗ rb c j) ∗ zs c 1 j ∗ zc c 1 j) ∗ zs c 2 j ∗ stripE c 0 j)
    ∗ outS c j (accV m j 3 c) ∗ stripE c 1 j ∗ semVal ((c : Thread nD τ), .dma (outSm j)) 0)

/-! ## The chunks of `A` through the loops -/

/-- The chunks of `A` before strip `j` of the first stage, and of the second hop. -/
def shA (c : Dev nD) (j : ℕ) : sProp 𝕄 := match j with
  | 0 => iprop(abSt m c 2 ∗ aFly m c 1 ⟨0, by decide⟩)
  | 1 => iprop(abSt m c 4 ∗ aFly m c 2 ⟨0, by decide⟩)
  | 2 => iprop(abSt m c 4 ∗ aFly m c 2 ⟨0, by decide⟩)
  | 3 => iprop(abSt m c 5 ∗ aFly m c 2 ⟨1, by decide⟩)
  | _ => iprop(abSt m c 6 ∗ aIdle m c)
def shH (c : Dev nD) (j : ℕ) : sProp 𝕄 := match j with
  | 0 => iprop(abSt m c 6 ∗ aFly m c 3 ⟨0, by decide⟩)
  | 1 => iprop(abSt m c 7 ∗ aFly m c 3 ⟨1, by decide⟩)
  | _ => iprop(abSt m c 8 ∗ aIdle m c)
/-- The fetches of `B` before strip `j`. -/
def shB (c : Dev nD) (j : ℕ) : sProp 𝕄 := if h : j < 8 then bFly m c ⟨j, h⟩ else bIdle m c

theorem shA_open (c : Dev nD) (j : Fin 8) : shA m c j.val ⊢ iprop(∃ n, ⌜2 * (kOf 0 j).val + 2 ≤ n⌝ ∗ abSt m c n ∗ (abSt m c n -∗ shA m c j.val)) := by
  have key : ∀ (n : ℕ) (R : sProp 𝕄), 2 * (kOf 0 j).val + 2 ≤ n → shA m c j.val = iprop(abSt m c n ∗ R) →
      shA m c j.val ⊢ iprop(∃ n, ⌜2 * (kOf 0 j).val + 2 ≤ n⌝ ∗ abSt m c n ∗ (abSt m c n -∗ shA m c j.val)) := fun n R hn e => by
    rw [e]; iintro ⟨H, HR⟩; iexists n
    isplitr; · (ipureintro; exact hn)
    isplitl [H]; · iexact H
    iintro H; isplitl [H] <;> iassumption
  match j with
  | 0 => exact key 2 _ (by decide) rfl
  | 1 => exact key 4 _ (by decide) rfl
  | 2 => exact key 4 _ (by decide) rfl
  | 3 => exact key 5 _ (by decide) rfl
  | 4 => exact key 6 _ (by decide) rfl
  | 5 => exact key 6 _ (by decide) rfl
  | 6 => exact key 6 _ (by decide) rfl
  | 7 => exact key 6 _ (by decide) rfl

theorem shH_open (c : Dev nD) (j : Fin 8) : shH m c j.val ⊢ iprop(∃ n, ⌜2 * (kOf 2 j).val + 2 ≤ n⌝ ∗ abSt m c n ∗ (abSt m c n -∗ shH m c j.val)) := by
  have key : ∀ (n : ℕ) (R : sProp 𝕄), 2 * (kOf 2 j).val + 2 ≤ n → shH m c j.val = iprop(abSt m c n ∗ R) →
      shH m c j.val ⊢ iprop(∃ n, ⌜2 * (kOf 2 j).val + 2 ≤ n⌝ ∗ abSt m c n ∗ (abSt m c n -∗ shH m c j.val)) := fun n R hn e => by
    rw [e]; iintro ⟨H, HR⟩; iexists n
    isplitr; · (ipureintro; exact hn)
    isplitl [H]; · iexact H
    iintro H; isplitl [H] <;> iassumption
  match j with
  | 0 => exact key 6 _ (by decide) rfl
  | 1 => exact key 7 _ (by decide) rfl
  | 2 => exact key 8 _ (by decide) rfl
  | 3 => exact key 8 _ (by decide) rfl
  | 4 => exact key 8 _ (by decide) rfl
  | 5 => exact key 8 _ (by decide) rfl
  | 6 => exact key 8 _ (by decide) rfl
  | 7 => exact key 8 _ (by decide) rfl

/-- Half a chunk waited for, converted, and the next half's fetch begun. -/
theorem wp_chunk (c : Dev nD) (n : ℕ) (q : Fin 4) (s : Fin 3) (h : Fin 2) (hk : q.val = n / 2) (hh : h.val = n % 2) (hs : s.val = min (n / 2) 2)
    (q' : Fin 4) (h' : Fin 2) (nO : ℕ) (k : PP F) (Q : PUnit → sProp 𝕄) :
    iprop(recs m K ∗ (abSt m c n ∗ aFly m c q h) ∗ owesE c nO ∗ (((abSt m c (n + 1) ∗ aFly m c q' h') ∗ owesE c nO) -∗ WP c k Q))
      ⊢ WP c (waitA c q h <| convA s h <| fetchA c q' h' k) Q := by
  iintro ⟨#HR, ⟨Hab, HF⟩, HO, Hk⟩
  iapply (wp_waitA m K c q h nO); isplitr; · iexact HR
  isplitl [HF]; · iexact HF
  isplitl [HO]; · iexact HO
  iintro ⟨Hg, HO⟩
  iapply (wp_convA m c n q s h hk hh hs); isplitl [Hg]; · iexact Hg
  isplitl [Hab]; · iexact Hab
  iintro ⟨Hg, Hab⟩
  iapply (wp_fetchA m c q' h'); isplitl [Hg]; · iapply (aGot_idle m c q h); iexact Hg
  iintro HF
  iapply Hk
  isplitr [HO]
  · isplitl [Hab] <;> iassumption
  iexact HO

/-- Half a chunk waited for and converted. -/
theorem wp_chunk_last (c : Dev nD) (n : ℕ) (q : Fin 4) (s : Fin 3) (h : Fin 2) (hk : q.val = n / 2) (hh : h.val = n % 2) (hs : s.val = min (n / 2) 2)
    (nO : ℕ) (k : PP F) (Q : PUnit → sProp 𝕄) :
    iprop(recs m K ∗ (abSt m c n ∗ aFly m c q h) ∗ owesE c nO ∗ (((abSt m c (n + 1) ∗ aIdle m c) ∗ owesE c nO) -∗ WP c k Q))
      ⊢ WP c (waitA c q h <| convA s h k) Q := by
  iintro ⟨#HR, ⟨Hab, HF⟩, HO, Hk⟩
  iapply (wp_waitA m K c q h nO); isplitr; · iexact HR
  isplitl [HF]; · iexact HF
  isplitl [HO]; · iexact HO
  iintro ⟨Hg, HO⟩
  iapply (wp_convA m c n q s h hk hh hs); isplitl [Hg]; · iexact Hg
  isplitl [Hab]; · iexact Hab
  iintro ⟨Hg, Hab⟩
  iapply Hk
  isplitr [HO]
  · isplitl [Hab]; · iexact Hab
    iapply (aGot_idle m c q h); iexact Hg
  iexact HO

theorem wp_extraA (c : Dev nD) (j : Fin 8) (nO : ℕ) (k : PP F) (Q : PUnit → sProp 𝕄) :
    iprop(recs m K ∗ shA m c j.val ∗ owesE c nO ∗ ((shA m c (j.val + 1) ∗ owesE c nO) -∗ WP c k Q)) ⊢ WP c (extraA c j k) Q := by
  have idle : shA m c j.val = shA m c (j.val + 1) → (extraA c j k : PP F) = k →
      iprop(recs m K ∗ shA m c j.val ∗ owesE c nO ∗ ((shA m c (j.val + 1) ∗ owesE c nO) -∗ WP c k Q)) ⊢ WP c (extraA c j k) Q := fun e e' => by
    rw [e, e']; iintro ⟨-, HA, HO, Hk⟩; iapply Hk; isplitl [HA] <;> iassumption
  match j with
  | 0 =>
    show iprop(recs m K ∗ (abSt m c 2 ∗ aFly m c 1 ⟨0, by decide⟩) ∗ owesE c nO ∗ (((abSt m c 4 ∗ aFly m c 2 ⟨0, by decide⟩) ∗ owesE c nO) -∗ WP c k Q)) ⊢ WP c (waitA c 1 ⟨0, by decide⟩ <| convA ⟨1, by decide⟩ ⟨0, by decide⟩ <| fetchA c 1 ⟨1, by decide⟩ <|
      waitA c 1 ⟨1, by decide⟩ <| convA ⟨1, by decide⟩ ⟨1, by decide⟩ <| fetchA c 2 ⟨0, by decide⟩ k) Q
    iintro ⟨#HR, HA, HO, Hk⟩
    iapply (wp_chunk m K c 2 1 _ _ rfl rfl rfl 1 _ nO); isplitr; · iexact HR
    isplitl [HA]; · iexact HA
    isplitl [HO]; · iexact HO
    iintro ⟨HA, HO⟩
    iapply (wp_chunk m K c 3 1 _ _ rfl rfl rfl 2 _ nO); isplitr; · iexact HR
    isplitl [HA]; · iexact HA
    isplitl [HO]; · iexact HO
    iexact Hk
  | 1 => exact idle rfl rfl
  | 2 => exact wp_chunk m K c 4 2 ⟨2, by decide⟩ ⟨0, by decide⟩ rfl rfl rfl 2 ⟨1, by decide⟩ nO k Q
  | 3 => exact wp_chunk_last m K c 5 2 ⟨2, by decide⟩ ⟨1, by decide⟩ rfl rfl rfl nO k Q
  | 4 => exact idle rfl rfl
  | 5 => exact idle rfl rfl
  | 6 => exact idle rfl rfl
  | 7 => exact idle rfl rfl

theorem wp_extraH (c : Dev nD) (j : Fin 8) (nO : ℕ) (k : PP F) (Q : PUnit → sProp 𝕄) :
    iprop(recs m K ∗ shH m c j.val ∗ owesE c nO ∗ ((shH m c (j.val + 1) ∗ owesE c nO) -∗ WP c k Q)) ⊢ WP c (extraH c j k) Q := by
  have idle : shH m c j.val = shH m c (j.val + 1) → (extraH c j k : PP F) = k →
      iprop(recs m K ∗ shH m c j.val ∗ owesE c nO ∗ ((shH m c (j.val + 1) ∗ owesE c nO) -∗ WP c k Q)) ⊢ WP c (extraH c j k) Q := fun e e' => by
    rw [e, e']; iintro ⟨-, HA, HO, Hk⟩; iapply Hk; isplitl [HA] <;> iassumption
  match j with
  | 0 => exact wp_chunk m K c 6 3 ⟨2, by decide⟩ ⟨0, by decide⟩ rfl rfl rfl 3 ⟨1, by decide⟩ nO k Q
  | 1 => exact wp_chunk_last m K c 7 3 ⟨2, by decide⟩ ⟨1, by decide⟩ rfl rfl rfl nO k Q
  | 2 => exact idle rfl rfl
  | 3 => exact idle rfl rfl
  | 4 => exact idle rfl rfl
  | 5 => exact idle rfl rfl
  | 6 => exact idle rfl rfl
  | 7 => exact idle rfl rfl

/-- The next fetch of `B`. -/
theorem wp_nextB (c : Dev nD) (j : Fin 8) (k : PP F) (Q : PUnit → sProp 𝕄) :
    iprop(bIdle m c ∗ (shB m c (j.val + 1) -∗ WP c k Q)) ⊢ WP c (nextB j k) Q := by
  unfold nextB shB
  by_cases h : j.val + 1 < 8
  · rw [dif_pos h, dif_pos h]; exact wp_fetchB m c ⟨j.val + 1, h⟩ k Q
  · rw [dif_neg h, dif_neg h]; iintro ⟨HB, Hk⟩; iapply Hk; iexact HB

/-! ## The first stage -/

theorem wp_stepA (c : Dev nD) (j : Fin 8) (n : ℕ) (hn : 2 * (kOf 0 j).val + 2 ≤ n) (k : PP F) (Q : PUnit → sProp 𝕄) :
    iprop(recs m K ∗ abSt m c n ∗ bbSt m c j.val 0 ∗ bFly m c j ∗ owesE c (2 + j.val) ∗ P0 c j
        ∗ ((abSt m c n ∗ bbSt m c (j.val + 1) 0 ∗ shB m c (j.val + 1) ∗ owesE c (2 + j.val + 1) ∗ P1 c j) -∗ WP c k Q))
      ⊢ WP c (stepA c (slot0 j) j (nextB j) k) Q := by
  unfold stepA P0 Pst P1
  iintro ⟨#HR, Hab, Hbb, HF, HO, ⟨⟨⟨Hp0, Hp1, Hp2, Hq0, Hq1, Ho⟩, Hs⟩, Hd⟩, Hk⟩
  iapply (wp_waitB m K c j (2 + j.val)); isplitr; · iexact HR
  isplitl [HF]; · iexact HF
  isplitl [HO]; · iexact HO
  iintro ⟨Hg, HO⟩
  iapply (wp_convB m c _ j); isplitl [Hg]; · iexact Hg
  isplitl [Hbb]; · iexact Hbb
  iintro ⟨Hg, Hbb⟩
  iapply (wp_convB m c _ j); isplitl [Hg]; · iexact Hg
  isplitl [Hbb]; · iexact Hbb
  iintro ⟨Hg, Hbb⟩
  ihave Hbb := (show bbSt m c j.val 2 ⊢ bbSt m c (j.val + 1) 0 from by
    unfold bbSt; iintro ⟨%f, %hf, H⟩; iexists f; isplitr; · (ipureintro; exact bF_next m c f j.val hf)
    iexact H) $$ Hbb
  iapply (wp_nextB m c j); isplitl [Hg]; · iapply (bGot_idle m c j); iexact Hg
  iintro HB
  iapply (wp_loadAB m c 0 j n (j.val + 1) 0 hn (fun h => absurd h (by show ¬ 2 ≤ j.val % 2; omega)) (Nat.lt_succ_self _)); isplitl [Hab]; · iexact Hab
  isplitl [Hbb]; · iexact Hbb
  iintro ⟨Hab, Hbb⟩
  rw [pay0_eq]
  iapply (wp_storeC c 0 j (accV m j 0 c)); isplitl [Hs]; · iexact Hs
  iintro Hs
  unfold pend
  icases Hp0 with ⟨HaS, HaR, HcR, HtS, HtR⟩
  iapply (wp_sendC m K c 0 j ⟨0, by decide⟩ ⟨1, by decide⟩ rfl rfl (2 + j.val) (by omega) (item_recv0 c j)); isplitr; · iexact HR
  isplitl [Hs]; · iexact Hs
  isplitl [Hd]; · iexact Hd
  isplitl [HO]; · iexact HO
  isplitl [HtS]; · iexact HtS
  isplitl [HtR]; · iexact HtR
  iintro ⟨HcS, HO⟩
  iapply Hk
  isplitl [Hab]; · iexact Hab
  isplitl [Hbb]; · iexact Hbb
  isplitl [HB]; · iexact HB
  isplitl [HO]; · iexact HO
  unfold fl
  isplitl [HaS HaR HcR HcS]
  · isplitl [HaS]; · iexact HaS
    isplitl [HaR]; · iexact HaR
    isplitl [HcR] <;> iassumption
  isplitl [Hp1]; · iexact Hp1
  isplitl [Hp2]; · iexact Hp2
  isplitl [Hq0]; · iexact Hq0
  isplitl [Hq1] <;> iassumption

/-! ## The hops -/

theorem wp_recvAdd (c : Dev nD) (h : Fin 3) (s s' : Fin 2) (hs' : s' = sideD h) (sl : Fin 3) (j : Fin 8) (hsl : sl = slOf h.succ j)
    (n nO : ℕ) (hn : 2 * (kOf h.succ j).val + 2 ≤ n) (hov : 2 ≤ (kOf h.succ j).val → n ≤ 2 * (kOf h.succ j).val + 2)
    (hl : ∀ i, nO ≤ i → i < 44 → 10 * h.val + 2 < lvI i) (k : PP F) (Q : PUnit → sProp 𝕄) :
    iprop(recs m K ∗ abSt m c n ∗ bbSt m c 8 0 ∗ cred (tallyAt (cell c (.recv h j)) false N) ∗ atPos ER (cell c (.recv h j)) 0 ∅ 0 ∗ owesE c nO
        ∗ ((abSt m c n ∗ bbSt m c 8 0 ∗ strip c (sideD h) j (accV m j (h.val + 1) c) ∗ semVal (cell c (.recv h j)) 0 ∗ owesE c nO) -∗ WP c k Q))
      ⊢ WP c (recvAdd h s s' sl j k) Q := by
  subst hs' hsl
  unfold recvAdd
  iintro ⟨#HR, Hab, Hbb, Hc, Hat, HO, Hk⟩
  iapply (wp_loadAB m c h.succ j n 8 0 hn hov j.isLt); isplitl [Hab]; · iexact Hab
  isplitl [Hbb]; · iexact Hbb
  iintro ⟨Hab, Hbb⟩
  iapply (wp_waitRecv m K c h j s (sideD h) nO hl); isplitr; · iexact HR
  isplitl [Hc]; · iexact Hc
  isplitl [Hat]; · iexact Hat
  isplitl [HO]; · iexact HO
  unfold strip
  iintro ⟨⟨%f, %hf, Hs⟩, Hz, HO⟩
  iapply (wp_load 𝒱₀ (c : Thread nD τ) none Set.univ (m := cmM) (cm_sub (sideD h) j)) $$ Hs; iintro Hs
  rw [payH_eq m c h j (sideD h) f hf]
  iapply (wp_storeC c (sideD h) j (accV m j (h.val + 1) c)); isplitl [Hs]
  · unfold stripE; iexists f; iexact Hs
  iintro Hs
  iapply Hk
  isplitl [Hab]; · iexact Hab
  isplitl [Hbb]; · iexact Hbb
  isplitl [Hs]; · unfold strip; iexact Hs
  isplitl [Hz] <;> iassumption

/-- Hop `h < 2` of strip `j`. -/
theorem wp_hop (c : Dev nD) (h : Fin 2) (h3 h3' : Fin 3) (s s' : Fin 2) (sl : Fin 3) (j : Fin 8) (e3 : h3 = h.castSucc) (e3' : h3' = h.succ)
    (es : s = sideS h3) (es' : s' = sideD h3) (esl : sl = slOf h3.succ j)
    (n nO : ℕ) (hn : 2 * (kOf h3.succ j).val + 2 ≤ n) (hov : 2 ≤ (kOf h3.succ j).val → n ≤ 2 * (kOf h3.succ j).val + 2)
    (hnO : nO = 10 + 16 * h.val + 2 * j.val) (k : PP F) (Q : PUnit → sProp 𝕄) :
    iprop(recs m K ∗ reached ER (cell c .bar) 1 ∗ abSt m c n ∗ bbSt m c 8 0 ∗ fl c h3 j ∗ pend c h3' j ∗ pendC c h j ∗ owesE c nO
        ∗ ((abSt m c n ∗ bbSt m c 8 0 ∗ (zs c h3 j ∗ zc c h j ∗ rb c j) ∗ fl c h3' j ∗ owesE c (nO + 2)) -∗ WP c k Q))
      ⊢ WP c (hop c h h3 h3' s s' sl j k) Q := by
  have hlt := h.isLt
  have hjlt := j.isLt
  have hside : sideD h.succ = sideS h.castSucc := by clear hnO hov hn esl es es' e3 e3' hlt; revert h; decide
  have hside' : sideS h.succ = sideD h.castSucc := by clear hnO hov hn esl es es' e3 e3' hlt; revert h; decide
  have hv : h3.val = h.val := by rw [e3]; rfl
  unfold hop fl pend pendC
  iintro ⟨#HR, #Hb, Hab, Hbb, ⟨HaS, HaR, HcR, HcS⟩, ⟨HaS', HaR', HcR', HtS', HtR'⟩, ⟨HaC, HcC, HtC⟩, HO, Hk⟩
  iapply (wp_recvAdd m K c h3 s s' es' sl j esl n nO hn hov (fun i hi hi' => by
      rw [hv]; unfold lvI; rw [if_neg (by omega), if_neg (by omega)]
      by_cases h42 : i < 42
      · rw [if_pos h42]; split <;> omega
      · rw [if_neg h42]; omega)); isplitr; · iexact HR
  isplitl [Hab]; · iexact Hab
  isplitl [Hbb]; · iexact Hbb
  isplitl [HcR]; · iexact HcR
  isplitl [HaR]; · iexact HaR
  isplitl [HO]; · iexact HO
  iintro ⟨Hab, Hbb, Hs, HzR, HO⟩
  iapply (wp_waitSend m K c h3 j s s' nO); isplitr; · iexact HR
  isplitl [HcS]; · iexact HcS
  isplitl [HaS]; · iexact HaS
  isplitl [HO]; · iexact HO
  iintro ⟨Hf, HzS, HO⟩
  iapply (wp_sigCred m K c h j nO (by omega) (by rw [hnO]; exact item_cred c h j)); isplitr; · iexact HR
  isplitl [HtC]; · iexact HtC
  isplitl [Hf]; · rw [hside, ← e3]; iexact Hf
  isplitr; · iexact Hb
  isplitl [HO]; · iexact HO
  iintro HO
  iapply (wp_waitCred m K c h j (nO + 1) (fun i hi hi' => by
      unfold lvI; rw [if_neg (by omega), if_neg (by omega)]
      by_cases h42 : i < 42
      · rw [if_pos h42]; split <;> omega
      · rw [if_neg h42]; omega)); isplitr; · iexact HR
  isplitl [HcC]; · iexact HcC
  isplitl [HaC]; · iexact HaC
  isplitl [HO]; · iexact HO
  iintro ⟨⟨Hd, Hrb⟩, HzC, HO⟩
  rw [e3']
  iapply (wp_sendC m K c h.succ j s' s (by rw [es', e3, hside']) (by rw [es, e3, hside]) (nO + 1) (by omega) (by rw [hnO]; exact item_recv c h j)); isplitr; · iexact HR
  isplitl [Hs]
  · rw [hside', ← e3, show (h.succ).val = h3.val + 1 by rw [hv]; rfl]; iexact Hs
  isplitl [Hd]; · iexact Hd
  isplitl [HO]; · iexact HO
  isplitl [HtS']; · iexact HtS'
  isplitl [HtR']; · iexact HtR'
  iintro ⟨HcS', HO⟩
  iapply Hk
  isplitl [Hab]; · iexact Hab
  isplitl [Hbb]; · iexact Hbb
  isplitl [HzS HzR HzC Hrb]
  · unfold zs zc rb
    isplitl [HzS HzR]
    · isplitl [HzS] <;> iassumption
    isplitl [HzC] <;> iassumption
  isplitl [HaS' HaR' HcR' HcS']
  · isplitl [HaS']; · iexact HaS'
    isplitl [HaR']; · iexact HaR'
    isplitl [HcR'] <;> iassumption
  iexact HO

/-- The last hop of strip `j`. -/
theorem wp_lastHop (c : Dev nD) (j : Fin 8) (k : PP F) (Q : PUnit → sProp 𝕄) :
    iprop(recs m K ∗ abSt m c 8 ∗ bbSt m c 8 0 ∗ owesE c 42 ∗ P3 c j ∗ ((abSt m c 8 ∗ bbSt m c 8 0 ∗ owesE c 42 ∗ P4 m c j) -∗ WP c k Q))
      ⊢ WP c (lastHop j k) Q := by
  unfold lastHop P3 P4 fl
  iintro ⟨#HR, Hab, Hbb, HO, ⟨Hz, ⟨HaS, HaR, HcR, HcS⟩, Ho⟩, Hk⟩
  iapply (wp_recvAdd m K c 2 ⟨0, by decide⟩ ⟨1, by decide⟩ rfl ⟨2, by decide⟩ j rfl 8 42 (show 2 * 3 + 2 ≤ 8 by decide) (fun _ => show 8 ≤ 2 * 3 + 2 by decide) (fun i hi hi' => by
      unfold lvI; rw [if_neg (by omega), if_neg (by omega), if_neg (by omega)]; decide)); isplitr; · iexact HR
  isplitl [Hab]; · iexact Hab
  isplitl [Hbb]; · iexact Hbb
  isplitl [HcR]; · iexact HcR
  isplitl [HaR]; · iexact HaR
  isplitl [HO]; · iexact HO
  iintro ⟨Hab, Hbb, Hs, HzR, HO⟩
  iapply (wp_startOut c j (accV m j 3 c)); isplitl [Hs]; · iexact Hs
  isplitl [Ho]; · iexact Ho
  iintro HF
  iapply (wp_waitSend m K c 2 j ⟨0, by decide⟩ ⟨1, by decide⟩ 42); isplitr; · iexact HR
  isplitl [HcS]; · iexact HcS
  isplitl [HaS]; · iexact HaS
  isplitl [HO]; · iexact HO
  iintro ⟨Hf, HzS, HO⟩
  iapply Hk
  isplitl [Hab]; · iexact Hab
  isplitl [Hbb]; · iexact Hbb
  isplitl [HO]; · iexact HO
  isplitr [HF]
  · isplitl [Hz]; · iexact Hz
    unfold zs
    isplitl [HzS HzR]
    · isplitl [HzS] <;> iassumption
    iexact Hf
  iexact HF

end Cert.KernelIdealProof
-- ==== Proof.KernelIdeal.Whole.lean ====
/- The body of a core as a whole: from what the launch hands it to what it leaves. -/
module

public import proofs.«01_k».proof.Proof.KernelIdeal.Body

@[expose] public section

noncomputable section

namespace Cert.KernelIdealProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Bool (Elt F) ℕ UU ℕ

variable (m : (ℓ : Loc nD τ sig) → Buf (Elt F) ℓ) (K : Dev nD × CK → ℕ)

/-! ## The loops -/

def shA' (c : Dev nD) (j : ℕ) : sProp 𝕄 := iprop(recs m K ∗ shA m c j ∗ bbSt m c j 0 ∗ shB m c j ∗ owesE c (2 + j))
def shH0 (c : Dev nD) (j : ℕ) : sProp 𝕄 := iprop(recs m K ∗ reached ER (cell c .bar) 1 ∗ abSt m c 6 ∗ bbSt m c 8 0 ∗ owesE c (10 + 2 * j))
def shH1 (c : Dev nD) (j : ℕ) : sProp 𝕄 := iprop(recs m K ∗ reached ER (cell c .bar) 1 ∗ shH m c j ∗ bbSt m c 8 0 ∗ owesE c (26 + 2 * j))
def shL (c : Dev nD) (_ : ℕ) : sProp 𝕄 := iprop(recs m K ∗ abSt m c 8 ∗ bbSt m c 8 0 ∗ owesE c 42)
def shO (c : Dev nD) (_ : ℕ) : sProp 𝕄 := iprop(recs m K ∗ owesE c 42)

theorem loopA (c : Dev nD) (k : PP F) (Q : PUnit → sProp 𝕄) :
    iprop(shA' m K c 0 ∗ bigSep Finset.univ (P0 c) ∗ ((shA' m K c 8 ∗ bigSep Finset.univ (P1 c)) -∗ WP c k Q))
      ⊢ WP c (forJ (fun j k => stepA c (slot0 j) j (nextB j) (extraA c j k)) k) Q := by
  refine wp_forJ c _ (shA' m K c) (P0 c) (P1 c) (fun j k Q => ?_) k Q
  unfold shA'
  rw [show shB m c j.val = bFly m c j from dif_pos j.isLt]
  iintro ⟨⟨#HR, HA, Hbb, HB, HO⟩, HT, Hk⟩
  ihave HA' := (shA_open m c j) $$ HA
  icases HA' with ⟨%n, %hn, Hab, HA⟩
  iapply (wp_stepA m K c j n hn); isplitr; · iexact HR
  isplitl [Hab]; · iexact Hab
  isplitl [Hbb]; · iexact Hbb
  isplitl [HB]; · iexact HB
  isplitl [HO]; · iexact HO
  isplitl [HT]; · iexact HT
  iintro ⟨Hab, Hbb, HB, HO, HT⟩
  ihave HA := HA $$ Hab
  iapply (wp_extraA m K c j (2 + j.val + 1)); isplitr; · iexact HR
  isplitl [HA]; · iexact HA
  isplitl [HO]; · iexact HO
  iintro ⟨HA, HO⟩
  iapply Hk
  isplitr [HT]
  · isplitr; · iexact HR
    isplitl [HA]; · iexact HA
    isplitl [Hbb]; · iexact Hbb
    isplitl [HB]; · iexact HB
    iexact HO
  iexact HT

theorem loopH0 (c : Dev nD) (k : PP F) (Q : PUnit → sProp 𝕄) :
    iprop(shH0 m K c 0 ∗ bigSep Finset.univ (P1 c) ∗ ((shH0 m K c 8 ∗ bigSep Finset.univ (P2 c)) -∗ WP c k Q))
      ⊢ WP c (forJ (fun j k => hop c ⟨0, by decide⟩ ⟨0, by decide⟩ ⟨1, by decide⟩ ⟨0, by decide⟩ ⟨1, by decide⟩ ⟨2, by decide⟩ j k) k) Q := by
  refine wp_forJ c _ (shH0 m K c) (P1 c) (P2 c) (fun j k Q => ?_) k Q
  unfold shH0 P1 P2
  iintro ⟨⟨#HR, #Hb, Hab, Hbb, HO⟩, ⟨Hf, Hp1, Hp2, Hq0, Hq1, Ho⟩, Hk⟩
  iapply (wp_hop m K c 0 0 1 _ _ _ j rfl rfl rfl rfl rfl 6 (10 + 2 * j.val) (show 2 * 2 + 2 ≤ 6 by decide) (fun _ => show 6 ≤ 2 * 2 + 2 by decide)
    (by show 10 + 2 * j.val = 10 + 16 * 0 + 2 * j.val; omega)); isplitr; · iexact HR
  isplitr; · iexact Hb
  isplitl [Hab]; · iexact Hab
  isplitl [Hbb]; · iexact Hbb
  isplitl [Hf]; · iexact Hf
  isplitl [Hp1]; · iexact Hp1
  isplitl [Hq0]; · iexact Hq0
  isplitl [HO]; · iexact HO
  iintro ⟨Hab, Hbb, Hz, Hf, HO⟩
  iapply Hk
  isplitr [Hz Hf Hp2 Hq1 Ho]
  · isplitr; · iexact HR
    isplitr; · iexact Hb
    isplitl [Hab]; · iexact Hab
    isplitl [Hbb]; · iexact Hbb
    rw [show 10 + 2 * (j.val + 1) = 10 + 2 * j.val + 2 by omega]; iexact HO
  isplitl [Hz]; · iexact Hz
  isplitl [Hf]; · iexact Hf
  isplitl [Hp2]; · iexact Hp2
  isplitl [Hq1] <;> iassumption

theorem loopH1 (c : Dev nD) (k : PP F) (Q : PUnit → sProp 𝕄) :
    iprop(shH1 m K c 0 ∗ bigSep Finset.univ (P2 c) ∗ ((shH1 m K c 8 ∗ bigSep Finset.univ (P3 c)) -∗ WP c k Q))
      ⊢ WP c (forJ (fun j k => hop c ⟨1, by decide⟩ ⟨1, by decide⟩ ⟨2, by decide⟩ ⟨1, by decide⟩ ⟨0, by decide⟩ (slot2 j) j (extraH c j k)) k) Q := by
  refine wp_forJ c _ (shH1 m K c) (P2 c) (P3 c) (fun j k Q => ?_) k Q
  unfold shH1 P2 P3
  iintro ⟨⟨#HR, #Hb, HA, Hbb, HO⟩, ⟨Hz0, Hf, Hp2, Hq1, Ho⟩, Hk⟩
  ihave HA' := (shH_open m c j) $$ HA
  icases HA' with ⟨%n, %hn, Hab, HA⟩
  iapply (wp_hop m K c 1 1 2 _ _ _ j rfl rfl rfl rfl rfl n (26 + 2 * j.val) hn (fun h => absurd h (by show ¬ 2 ≤ 1 - j.val % 2; omega))
    (by show 26 + 2 * j.val = 10 + 16 * 1 + 2 * j.val; omega)); isplitr; · iexact HR
  isplitr; · iexact Hb
  isplitl [Hab]; · iexact Hab
  isplitl [Hbb]; · iexact Hbb
  isplitl [Hf]; · iexact Hf
  isplitl [Hp2]; · iexact Hp2
  isplitl [Hq1]; · iexact Hq1
  isplitl [HO]; · iexact HO
  iintro ⟨Hab, Hbb, ⟨Hz, Hzc, -⟩, Hf, HO⟩
  ihave HA := HA $$ Hab
  iapply (wp_extraH m K c j (26 + 2 * j.val + 2)); isplitr; · iexact HR
  isplitl [HA]; · iexact HA
  isplitl [HO]; · iexact HO
  iintro ⟨HA, HO⟩
  iapply Hk
  isplitr [Hz0 Hz Hzc Hf Ho]
  · isplitr; · iexact HR
    isplitr; · iexact Hb
    isplitl [HA]; · iexact HA
    isplitl [Hbb]; · iexact Hbb
    rw [show 26 + 2 * (j.val + 1) = 26 + 2 * j.val + 2 by omega]; iexact HO
  isplitl [Hz0 Hz Hzc]
  · isplitl [Hz0]; · iexact Hz0
    isplitl [Hz] <;> iassumption
  isplitl [Hf] <;> iassumption

theorem loopL (c : Dev nD) (k : PP F) (Q : PUnit → sProp 𝕄) :
    iprop(shL m K c 0 ∗ bigSep Finset.univ (P3 c) ∗ ((shL m K c 8 ∗ bigSep Finset.univ (P4 m c)) -∗ WP c k Q))
      ⊢ WP c (forJ (fun j k => lastHop j k) k) Q := by
  refine wp_forJ c _ (shL m K c) (P3 c) (P4 m c) (fun j k Q => ?_) k Q
  unfold shL
  iintro ⟨⟨#HR, Hab, Hbb, HO⟩, HT, Hk⟩
  iapply (wp_lastHop m K c j); isplitr; · iexact HR
  isplitl [Hab]; · iexact Hab
  isplitl [Hbb]; · iexact Hbb
  isplitl [HO]; · iexact HO
  isplitl [HT]; · iexact HT
  iintro ⟨Hab, Hbb, HO, HT⟩
  iapply Hk
  isplitr [HT]
  · isplitr; · iexact HR
    isplitl [Hab]; · iexact Hab
    isplitl [Hbb]; · iexact Hbb
    iexact HO
  iexact HT

theorem loopO (c : Dev nD) (k : PP F) (Q : PUnit → sProp 𝕄) :
    iprop(shO m K c 0 ∗ bigSep Finset.univ (P4 m c) ∗ ((shO m K c 8 ∗ bigSep Finset.univ (P5 m c)) -∗ WP c k Q))
      ⊢ WP c (forJ (fun j k => waitOut j k) k) Q := by
  refine wp_forJ c _ (shO m K c) (P4 m c) (P5 m c) (fun j k Q => ?_) k Q
  unfold shO P4 P5
  iintro ⟨⟨#HR, HO⟩, ⟨Hz, HF⟩, Hk⟩
  iapply (wp_waitOut m K c j (accV m j 3 c) 42); isplitr; · iexact HR
  isplitl [HF]; · iexact HF
  isplitl [HO]; · iexact HO
  iintro ⟨Hs, He, Hv, HO⟩
  iapply Hk
  isplitl [HO]
  · isplitr; · iexact HR
    iexact HO
  isplitl [Hz]; · iexact Hz
  isplitl [Hs]; · iexact Hs
  isplitl [He] <;> iassumption

/-! ## What the entry barrier hands around -/

omit [FloatOps F] in
theorem filter_other : (Finset.univ.filter fun j : Fin 8 => ¬ev j = true) = Finset.univ.filter fun j => ev j = false := by decide

/-- The own strips of the side received in are what the neighbours' barriers hand on. -/
theorem pay_out (c : Dev nD) :
    bigSep Finset.univ (fun j => stripE (F := F) c 1 j) = iprop(barPay (prv c) true ∗ barPay (nxt c) false) := by
  rw [BI.bigSep_filter_split Finset.univ (fun j : Fin 8 => ev j = true), filter_other]
  unfold barPay
  congr 1
  · exact bigSep_congr fun j hj => by
      rw [show dn j (prv c) = c by unfold dn; rw [if_pos (Finset.mem_filter.mp hj).2, nxt_prv]]
  · exact bigSep_congr fun j hj => by
      rw [show dn j (nxt c) = c by unfold dn; rw [(Finset.mem_filter.mp hj).2, if_neg (by decide), prv_nxt]]
theorem pay_in (c : Dev nD) :
    iprop(barPay c false ∗ barPay c true) ⊢ bigSep Finset.univ (fun j => stripE (F := F) (dn j c) 1 j) := by
  rw [BI.bigSep_filter_split Finset.univ (fun j : Fin 8 => ev j = true), filter_other]
  exact sep_comm.1

/-! ## The body -/

/-- What a core needs for the two barriers. -/
def barRes (c : Dev nD) : sProp 𝕄 :=
  iprop(atPos ER (cell c .bar) 0 ∅ 0 ∗ cred (tallyAt (cell c .bar) false 2) ∗ cred (tallyAt (cell c .bar) true 2)
    ∗ dutyTok ER (cell (prv c) .bar) 0 true ∗ dutyTok ER (cell (nxt c) .bar) 0 false
    ∗ dutyTok ER (cell (prv c) .bar) 1 true ∗ dutyTok ER (cell (nxt c) .bar) 1 false)
/-- The buffers private to a core. -/
def ownB (c : Dev nD) : sProp 𝕄 :=
  iprop(aIdle m c ∗ bIdle m c ∗ (∃ f, abM.view.loc (c : Thread nD τ) ↦{fullShare} f) ∗ (∃ f, bbM.view.loc (c : Thread nD τ) ↦{fullShare} f))

def bodyPre (c : Dev nD) : sProp 𝕄 :=
  iprop(recs m K ∗ owesE c 0 ∗ barRes c ∗ bigSep Finset.univ (Pst c) ∗ bigSep Finset.univ (fun j => stripE c 1 j) ∗ ownB m c)
def bodyPost (c : Dev nD) : sProp 𝕄 :=
  iprop(owesE c 44 ∗ semVal (cell c .bar) 0 ∗ bigSep Finset.univ (P5 m c) ∗ ownB m c)

theorem P5_rb1 (c : Dev nD) (j : Fin 8) : P5 m c j ⊢ iprop(P5 m c j ∗ rb (F := F) c j) := by
  unfold P5
  iintro ⟨⟨⟨⟨Hz, Hc, #Hr⟩, H1⟩, H2⟩, H3⟩
  isplitr []
  · isplitr [H3]
    · isplitr [H2]
      · isplitr [H1]
        · isplitl [Hz]; · iexact Hz
          isplitl [Hc]; · iexact Hc
          iexact Hr
        iexact H1
      iexact H2
    iexact H3
  iexact Hr
/-- The strips after the last loop tell that both neighbours are past the entry barrier. -/
theorem P5_rb (c : Dev nD) : bigSep Finset.univ (P5 m c) ⊢ iprop(bigSep Finset.univ (P5 m c) ∗ reached ER (cell (nxt c) .bar) 1 ∗ reached ER (cell (prv c) .bar) 1) := by
  have h : bigSep Finset.univ (P5 m c) ⊢ iprop(bigSep Finset.univ (P5 m c) ∗ bigSep Finset.univ (rb (F := F) c)) := by
    rw [← bigSep_sep']
    exact bigSep_mono fun j _ => P5_rb1 m c j
  refine h.trans (sep_mono_right ?_)
  iintro #H
  isplitr
  · iapply (show bigSep Finset.univ (rb (F := F) c) ⊢ reached ER (cell (nxt c) .bar) 1 from bigSep_elim (Finset.mem_univ (0 : Fin 8))); iexact H
  · iapply (show bigSep Finset.univ (rb (F := F) c) ⊢ reached ER (cell (prv c) .bar) 1 from bigSep_elim (Finset.mem_univ (1 : Fin 8))); iexact H

theorem payOf_bar1 (c : Dev nD) (d : Bool) : payOf m c .bar 1 d = iprop(emp) := by
  unfold payOf; exact if_neg (by decide)

theorem payOf_bar0 (c : Dev nD) (d : Bool) : payOf m c .bar 0 d = barPay c d := by
  unfold payOf; exact if_pos rfl

/-- The exit barrier. -/
theorem sound_tail (c : Dev nD) (Q : PUnit → sProp 𝕄) :
    iprop(recs m K ∗ owesE c 42 ∗ (atPos ER (cell c .bar) 1 ∅ 0 ∗ cred (tallyAt (cell c .bar) true 2)
          ∗ dutyTok ER (cell (prv c) .bar) 1 true ∗ dutyTok ER (cell (nxt c) .bar) 1 false)
        ∗ bigSep Finset.univ (P5 m c) ∗ ownB m c ∗ (bodyPost m c -∗ Q ⟨⟩))
      ⊢ WP c (barrierP ⟨k0_dev43 c, k0_dev43_lt c⟩ ⟨k0_dev44 c, k0_dev44_lt c⟩ (.ret ⟨⟩)) Q := by
  iintro ⟨#HR, HO, ⟨Hat, Hc, Ht0, Ht1⟩, HP, HB, Hk⟩
  ihave HP' := (P5_rb m c) $$ HP
  icases HP' with ⟨HP, #Hrn, #Hrp⟩
  iapply (wp_barrier m K c _ _ (dev43_eq c) (dev44_eq c) 1 42 (by decide) (by decide) true rfl rfl true false (fun i h1 h2 => absurd h1 (by omega)))
  isplitr; · iexact HR
  isplitl [Ht0]
  · isplitr; · iexact Hrp
    isplitl [Ht0]; · iexact Ht0
    rw [payOf_bar1]; iempintro
  isplitl [Ht1]
  · isplitr; · iexact Hrn
    isplitl [Ht1]; · iexact Ht1
    rw [payOf_bar1]; iempintro
  isplitl [Hc]; · iexact Hc
  isplitl [Hat]; · iexact Hat
  isplitl [HO]; · iexact HO
  iintro ⟨Hat, -, -, HO⟩
  imod (Rounds.cell_close ER (Rd m) (Set.mem_univ (K (c, .bar))) (fun h => h) (R := 1 + 1) (fun r hr => Rd_later m c .bar r (by rw [if_pos rfl]; exact hr))) $$ [Hat] with Hz
  · isplitr; · iapply (recs_inv m K c .bar); iexact HR
    iexact Hat
  rw [wp_ret]; imodintro
  iapply Hk
  unfold bodyPost
  isplitl [HO]; · iexact HO
  isplitl [Hz]; · iexact Hz
  isplitl [HP] <;> iassumption

/-- From the first stage on. -/
theorem sound_loops (c : Dev nD) (Q : PUnit → sProp 𝕄) :
    iprop(recs m K ∗ owesE c 2 ∗ (atPos ER (cell c .bar) 1 ∅ 0 ∗ cred (tallyAt (cell c .bar) true 2)
          ∗ dutyTok ER (cell (prv c) .bar) 1 true ∗ dutyTok ER (cell (nxt c) .bar) 1 false)
        ∗ reached ER (cell c .bar) 1 ∗ bigSep Finset.univ (P0 c) ∗ shA m c 0 ∗ bbSt m c 0 0 ∗ shB m c 0 ∗ (bodyPost m c -∗ Q ⟨⟩))
      ⊢ WP c (forJ (fun j k => stepA c (slot0 j) j (nextB j) (extraA c j k)) <|
          forJ (fun j k => hop c ⟨0, by decide⟩ ⟨0, by decide⟩ ⟨1, by decide⟩ ⟨0, by decide⟩ ⟨1, by decide⟩ ⟨2, by decide⟩ j k) <|
          fetchA c 3 ⟨0, by decide⟩ <|
          forJ (fun j k => hop c ⟨1, by decide⟩ ⟨1, by decide⟩ ⟨2, by decide⟩ ⟨1, by decide⟩ ⟨0, by decide⟩ (slot2 j) j (extraH c j k)) <|
          forJ (fun j k => lastHop j k) <|
          forJ (fun j k => waitOut j k) <|
          barrierP ⟨k0_dev43 c, k0_dev43_lt c⟩ ⟨k0_dev44 c, k0_dev44_lt c⟩ (.ret ⟨⟩)) Q := by
  iintro ⟨#HR, HO, HT, #Hb, HP, HA, Hbb, HB, Hk⟩
  iapply (loopA m K c); isplitl [HA Hbb HB HO]
  · unfold shA'
    isplitr; · iexact HR
    isplitl [HA]; · iexact HA
    isplitl [Hbb]; · iexact Hbb
    isplitl [HB] <;> iassumption
  isplitl [HP]; · iexact HP
  unfold shA'
  rw [show shA m c 8 = iprop(abSt m c 6 ∗ aIdle m c) from rfl, show shB m c 8 = bIdle m c from dif_neg (by decide)]
  iintro ⟨⟨-, ⟨Hab, HA⟩, Hbb, HB, HO⟩, HP⟩
  iapply (loopH0 m K c); isplitl [Hab Hbb HO]
  · unfold shH0
    isplitr; · iexact HR
    isplitr; · iexact Hb
    isplitl [Hab]; · iexact Hab
    isplitl [Hbb] <;> iassumption
  isplitl [HP]; · iexact HP
  unfold shH0
  iintro ⟨⟨-, -, Hab, Hbb, HO⟩, HP⟩
  iapply (wp_fetchA m c 3 _); isplitl [HA]; · iexact HA
  iintro HF
  iapply (loopH1 m K c); isplitl [Hab HF Hbb HO]
  · unfold shH1
    isplitr; · iexact HR
    isplitr; · iexact Hb
    isplitl [Hab HF]
    · rw [show shH m c 0 = iprop(abSt m c 6 ∗ aFly m c 3 ⟨0, by decide⟩) from rfl]
      isplitl [Hab] <;> iassumption
    isplitl [Hbb] <;> iassumption
  isplitl [HP]; · iexact HP
  unfold shH1
  rw [show shH m c 8 = iprop(abSt m c 8 ∗ aIdle m c) from rfl]
  iintro ⟨⟨-, -, ⟨Hab, HA⟩, Hbb, HO⟩, HP⟩
  iapply (loopL m K c); isplitl [Hab Hbb HO]
  · unfold shL
    isplitr; · iexact HR
    isplitl [Hab]; · iexact Hab
    isplitl [Hbb] <;> iassumption
  isplitl [HP]; · iexact HP
  unfold shL
  iintro ⟨⟨-, Hab, Hbb, HO⟩, HP⟩
  iapply (loopO m K c); isplitl [HO]
  · unfold shO
    isplitr; · iexact HR
    iexact HO
  isplitl [HP]; · iexact HP
  unfold shO
  iintro ⟨⟨-, HO⟩, HP⟩
  iapply (sound_tail m K c)
  isplitr; · iexact HR
  isplitl [HO]; · iexact HO
  isplitl [HT]; · iexact HT
  isplitl [HP]; · iexact HP
  isplitr [Hk]
  · unfold ownB abSt bbSt
    icases Hab with ⟨%f, -, Hab⟩
    icases Hbb with ⟨%g, -, Hbb⟩
    isplitl [HA]; · iexact HA
    isplitl [HB]; · iexact HB
    isplitl [Hab]; · iexists f; iexact Hab
    iexists g; iexact Hbb
  iexact Hk

/-- The body of core `c` after it has read its device id. -/
theorem sound_bodyD (c : Dev nD) (Q : PUnit → sProp 𝕄) : iprop(bodyPre m K c ∗ (bodyPost m c -∗ Q ⟨⟩)) ⊢ WP c (bodyD c) Q := by
  unfold bodyD bodyPre barRes
  iintro ⟨⟨#HR, HO, ⟨Hat, Hc0, Hc1, Ht0, Ht1, Ht2, Ht3⟩, HP, Hs, HB⟩, Hk⟩
  unfold ownB
  icases HB with ⟨HA, HB, ⟨%f, Hab⟩, ⟨%g, Hbb⟩⟩
  iapply (wp_fetchB m c _); isplitl [HB]; · iexact HB
  iintro HB
  iapply (wp_fetchA m c 0 _); isplitl [HA]; · iexact HA
  iintro HA
  iapply (wp_chunk m K c 0 0 _ _ rfl rfl rfl 0 _ 0); isplitr; · iexact HR
  isplitl [HA Hab]
  · isplitl [Hab]
    · unfold abSt; iexists f; isplitr; · (ipureintro; exact aF_zero m c f)
      iexact Hab
    iexact HA
  isplitl [HO]; · iexact HO
  iintro ⟨HA, HO⟩
  iapply (wp_chunk m K c 1 0 _ _ rfl rfl rfl 1 _ 0); isplitr; · iexact HR
  isplitl [HA]; · iexact HA
  isplitl [HO]; · iexact HO
  iintro ⟨HA, HO⟩
  ihave Hs' := (Entails.of_eq (pay_out c)) $$ Hs
  icases Hs' with ⟨Hs0, Hs1⟩
  iapply (wp_barrier m K c _ _ (dev1_eq c) (dev2_eq c) 0 0 (by decide) (by decide) false rfl rfl true false (fun i h1 h2 => by
    show 1 < lvI i; unfold lvI; rw [if_neg (by omega)]
    split
    · decide
    split
    · split <;> omega
    · decide))
  isplitr; · iexact HR
  isplitl [Ht0 Hs0]
  · isplitr; · iapply (recs_reached m K (prv c) .bar); iexact HR
    isplitl [Ht0]; · iexact Ht0
    rw [payOf_bar0]; iexact Hs0
  isplitl [Ht1 Hs1]
  · isplitr; · iapply (recs_reached m K (nxt c) .bar); iexact HR
    isplitl [Ht1]; · iexact Ht1
    rw [payOf_bar0]; iexact Hs1
  isplitl [Hc0]; · iexact Hc0
  isplitl [Hat]; · iexact Hat
  isplitl [HO]; · iexact HO
  rw [rest_bar m c]
  iintro ⟨Hat, #Hb, Hpay, HO⟩
  ihave Hd := (pay_in c) $$ Hpay
  iapply (sound_loops m K c)
  isplitr; · iexact HR
  isplitl [HO]; · iexact HO
  isplitl [Hat Hc1 Ht2 Ht3]
  · isplitl [Hat]; · iexact Hat
    isplitl [Hc1]; · iexact Hc1
    isplitl [Ht2] <;> iassumption
  isplitr; · iexact Hb
  isplitl [HP Hd]
  · iapply (Entails.of_eq (bigSep_sep' Finset.univ (Pst c) (fun j => stripE (F := F) (dn j c) 1 j)).symm)
    isplitl [HP] <;> iassumption
  isplitl [HA]; · rw [show shA m c 0 = iprop(abSt m c 2 ∗ aFly m c 1 ⟨0, by decide⟩) from rfl]; iexact HA
  isplitl [Hbb]
  · unfold bbSt; iexists g; isplitr; · (ipureintro; exact bF_zero m c g)
    iexact Hbb
  isplitl [HB]; · rw [show shB m c 0 = bFly m c ⟨0, by decide⟩ from dif_pos (by decide)]; iexact HB
  iexact Hk

theorem WP_deviceId (c : Dev nD) (k : Dev nD → PP F) (Q : PUnit → sProp 𝕄) : WP c (.op .deviceId k) Q = WP c (k c) Q := by
  unfold WP; rw [wp_deviceId]

/-- The body of core `c`, from what the launch hands it to what it leaves. -/
theorem sound_body (c : Dev nD) (Q : PUnit → sProp 𝕄) : iprop(bodyPre m K c ∗ (bodyPost m c -∗ Q ⟨⟩)) ⊢ WP c bodyP Q := by
  exact (sound_bodyD m K c Q).trans (Entails.of_eq (WP_deviceId c bodyD Q).symm)

end Cert.KernelIdealProof
-- ==== Proof.KernelIdeal.Ghost.lean ====
/- The ghost state at the launch: the shared cells' invariants allocated on every device at once, and the tokens of the
   duties dealt around the ring to the devices that pay them. -/
module

public import proofs.«01_k».proof.Proof.KernelIdeal.Whole
public import proofs.«01_k».proof.Proof.Gen.KernelIdeal.Launch

@[expose] public section

noncomputable section

namespace Cert.KernelIdealProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Bool (Elt F) ℕ UU ℕ

variable (m : (ℓ : Loc nD τ sig) → Buf (Elt F) ℓ)

/-! ## The shared cells strip by strip -/

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin2 (Φ : Fin 2 → sProp 𝕄) : bigSep Finset.univ Φ = iprop(Φ 0 ∗ Φ 1) := bigSep_univ_eq_bigSepL [0, 1] (by decide) (by decide) Φ

/-- A strip's eight shared cells. -/
def PS (Φ : CK → sProp 𝕄) (j : Fin 8) : sProp 𝕄 :=
  iprop((Φ (.send 0 j) ∗ Φ (.send 1 j) ∗ Φ (.send 2 j)) ∗ (Φ (.recv 0 j) ∗ Φ (.recv 1 j) ∗ Φ (.recv 2 j)) ∗ Φ (.cred 0 j) ∗ Φ (.cred 1 j))

omit [FloatOps F] in
theorem PS_eq (Φ : CK → sProp 𝕄) : bigSep Finset.univ (PS Φ)
    = iprop((bigSep Finset.univ fun p : Fin 3 × Fin 8 => Φ (.send p.1 p.2)) ∗ (bigSep Finset.univ fun p : Fin 3 × Fin 8 => Φ (.recv p.1 p.2))
        ∗ bigSep Finset.univ fun p : Fin 2 × Fin 8 => Φ (.cred p.1 p.2)) := by
  rw [bigSep_univ_prod, bigSep_univ_prod, bigSep_univ_prod, bigSep_fin3, bigSep_fin3, bigSep_fin2]
  unfold PS; simp only [bigSep_sep']

omit [FloatOps F] in
theorem PS_sep (Φ : CK → sProp 𝕄) : bigSep Finset.univ (PS Φ)
    = iprop(((bigSep Finset.univ fun j => Φ (.send 0 j)) ∗ (bigSep Finset.univ fun j => Φ (.send 1 j)) ∗ (bigSep Finset.univ fun j => Φ (.send 2 j)))
        ∗ ((bigSep Finset.univ fun j => Φ (.recv 0 j)) ∗ (bigSep Finset.univ fun j => Φ (.recv 1 j)) ∗ (bigSep Finset.univ fun j => Φ (.recv 2 j)))
        ∗ (bigSep Finset.univ fun j => Φ (.cred 0 j)) ∗ (bigSep Finset.univ fun j => Φ (.cred 1 j))) := by
  unfold PS; simp only [bigSep_sep']

omit [FloatOps F] in
theorem sep_assoc_eq (A B C : sProp 𝕄) : iprop((A ∗ B) ∗ C) = iprop(A ∗ B ∗ C) := by
  have h1 : iprop((A ∗ B) ∗ C) ⊢ iprop(A ∗ B ∗ C) := sep_assoc.1
  have h2 : iprop(A ∗ B ∗ C) ⊢ iprop((A ∗ B) ∗ C) := by
    iintro ⟨HA, HB, HC⟩
    isplitr [HC]
    · isplitl [HA] <;> iassumption
    iexact HC
  exact BI.Entails.antisymm h1 h2

omit [FloatOps F] in
theorem bigSep_CK (Φ : CK → sProp 𝕄) : bigSep Finset.univ Φ = iprop(Φ .bar ∗ bigSep Finset.univ (PS Φ)) := by
  rw [bigSep_univ_equiv ckEquiv, bigSep_univ_sum, bigSep_univ_sum, bigSep_univ_sum, PS_eq,
    show (bigSep Finset.univ fun a : Unit => Φ (ckEquiv (.inl (.inl a)))) = Φ .bar from bigSep_univ_eq_bigSepL [()] (by decide) (by decide) _]
  exact sep_assoc_eq (Φ .bar) (bigSep Finset.univ fun p : Fin 3 × Fin 8 => Φ (.send p.1 p.2)) _

/-! ## The launch element -/

def ringCells : Finset (GSem nD τ sig) := Finset.univ.map ⟨kcell, kcell_injective⟩

/-- The duties: the first round's `false` of every shared cell, and the barrier's other three. -/
def tokOf : Dev nD × (CK ⊕ Fin 3) → GSem nD τ sig × ℕ × Bool
  | (c, .inl k) => (cell c k, 0, false)
  | (c, .inr i) => (cell c .bar, if i = 0 then 0 else 1, if i = 1 then false else true)

set_option maxRecDepth 4000 in
theorem tokOf_injective : Function.Injective tokOf := by
  have key : ∀ x y : Dev nD × CK, kcell x = kcell y → x = y := fun x y h => kcell_injective h
  rintro ⟨c, k | i⟩ ⟨c', k' | i'⟩ h
  · have := key (c, k) (c', k') (congrArg Prod.fst h)
    cases this; rfl
  · exfalso
    have h1 := congrArg (fun x : GSem nD τ sig × ℕ × Bool => x.2.1) h
    have h2 := congrArg (fun x : GSem nD τ sig × ℕ × Bool => x.2.2) h
    revert h1 h2; show 0 = (if i' = 0 then 0 else 1) → false = (if i' = 1 then false else true) → False
    clear h; revert i'; decide
  · exfalso
    have h1 := congrArg (fun x : GSem nD τ sig × ℕ × Bool => x.2.1) h
    have h2 := congrArg (fun x : GSem nD τ sig × ℕ × Bool => x.2.2) h
    revert h1 h2; show (if i = 0 then 0 else 1) = 0 → (if i = 1 then false else true) = false → False
    clear h; revert i; decide
  · have h0 := key (c, .bar) (c', .bar) (congrArg Prod.fst h)
    have h1 := congrArg (fun x : GSem nD τ sig × ℕ × Bool => x.2.1) h
    have h2 := congrArg (fun x : GSem nD τ sig × ℕ × Bool => x.2.2) h
    have hi : i = i' := by
      have : (if i = 0 then 0 else 1) = (if i' = 0 then 0 else 1) → (if i = 1 then false else true) = (if i' = 1 then false else true) → i = i' := by
        clear h h1 h2; revert i i'; decide
      exact this h1 h2
    rw [hi, show c = c' from congrArg Prod.fst h0]
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

/-- The duty tokens of device `c`'s own cells. -/
def toks (c : Dev nD) : sProp 𝕄 :=
  iprop((bigSep Finset.univ fun k : CK => dutyTok ER (cell c k) 0 false)
    ∗ dutyTok ER (cell c .bar) 0 true ∗ dutyTok ER (cell c .bar) 1 false ∗ dutyTok ER (cell c .bar) 1 true)

/-- What the launch element deals device `c`. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_fin3]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores: the two fetches', the output copies', and the shared ones but the barrier. -/
abbrev KO : Type := (Bool ⊕ Fin 8) ⊕ ((Fin 3 × Fin 8) ⊕ ((Fin 3 × Fin 8) ⊕ (Fin 2 × Fin 8)))
abbrev osem : KO → SemLoc sig
  | .inl (.inl false) => .dma cc0_scratch5.sem
  | .inl (.inl true) => .dma cc0_scratch6.sem
  | .inl (.inr j) => .dma (outSm j)
  | .inr (.inl p) => csem (.send p.1 p.2)
  | .inr (.inr (.inl p)) => csem (.recv p.1 p.2)
  | .inr (.inr (.inr p)) => csem (.cred p.1 p.2)

theorem ownSemFacts : Pipeline.OwnSemFacts cfg0.spec osem := by decide +kernel

/-- The semaphores of local copies at zero. -/
def localSems (c : Dev nD) : sProp 𝕄 :=
  iprop((semVal ((c : Thread nD τ), .dma cc0_scratch5.sem) 0 ∗ semVal ((c : Thread nD τ), .dma cc0_scratch6.sem) 0)
    ∗ bigSep Finset.univ fun j => semVal ((c : Thread nD τ), .dma (outSm j)) 0)

omit [FloatOps F] in
theorem ownSems0_eq (c : Dev nD) : (Pipeline.ownSems0 (Ix := Bool) (Name := ℕ) (U := UU) (Lvl := ℕ) (Val := Elt F) (τ := τ) osem c : sProp 𝕄)
    = iprop(localSems c ∗ bigSep Finset.univ (PS fun k => semVal (cell c k) 0)) := by
  unfold Pipeline.ownSems0 localSems
  rw [bigSep_univ_sum, bigSep_univ_sum, bigSep_univ_sum, bigSep_univ_sum, PS_eq,
    bigSep_univ_eq_bigSepL [false, true] (by decide) (by decide), bigSepL_cons_cons, bigSepL_singleton]
  rfl
omit [FloatOps F] in
theorem unscopedSems0_eq (c : Dev nD) : (unscopedSems0 c : sProp 𝕄) = semVal (cell c .bar) 0 := by
  unfold unscopedSems0; rw [bigSep_eq_bigSepL_of_eq [SemLoc.reg barS] (by decide +kernel) (by decide +kernel)]; rfl

/-! ## The global step -/

/-- What stays with device `c`: its positions, the tokens of the duties it pays, the semaphores of its local copies. -/
def payT (c : Dev nD) (j : Fin 8) : sProp 𝕄 :=
  iprop((dutyTok ER (cell c (.send 0 j)) 0 false ∗ dutyTok ER (cell c (.send 1 j)) 0 false ∗ dutyTok ER (cell c (.send 2 j)) 0 false)
    ∗ (dutyTok ER (cell (dn j c) (.recv 0 j)) 0 false ∗ dutyTok ER (cell (dn j c) (.recv 1 j)) 0 false ∗ dutyTok ER (cell (dn j c) (.recv 2 j)) 0 false)
    ∗ dutyTok ER (cell (up j c) (.cred 0 j)) 0 false ∗ dutyTok ER (cell (up j c) (.cred 1 j)) 0 false)
def payToks (c : Dev nD) : sProp 𝕄 :=
  iprop((dutyTok ER (cell (prv c) .bar) 0 true ∗ dutyTok ER (cell (nxt c) .bar) 0 false
      ∗ dutyTok ER (cell (prv c) .bar) 1 true ∗ dutyTok ER (cell (nxt c) .bar) 1 false)
    ∗ bigSep Finset.univ (payT c))
def linear (c : Dev nD) : sProp 𝕄 :=
  iprop((bigSep Finset.univ fun k : CK => atPos ER (cell c k) 0 ∅ 0) ∗ payToks c ∗ localSems c)

def recs0 (K : Dev nD × CK → ℕ) : sProp 𝕄 :=
  iprop((bigSep Finset.univ fun p : Dev nD × CK => cellInv ER (Rd m) (K p) (kcell p)) ∗ bigSep Finset.univ fun p : Dev nD × CK => reached ER (kcell p) 0)
instance recs0_persistent (K : Dev nD × CK → ℕ) : BI.Persistent (recs0 (F := F) m K) := by unfold recs0; infer_instance

/-- What the global step gives device `c`. -/
def G' (c : Dev nD) : sProp 𝕄 := iprop(∃ K, recs0 m K ∗ linear c)

def nxtE : Dev nD ≃ Dev nD := ⟨nxt, prv, prv_nxt, nxt_prv⟩
def dnE (j : Fin 8) : Dev nD ≃ Dev nD := ⟨dn j, up j, up_dn j, dn_up j⟩

omit [FloatOps F] in
/-- Dealing along a permutation of the devices for each strip changes nothing in total. -/
theorem around (e : Fin 8 → Dev nD ≃ Dev nD) (Φ : Dev nD → Fin 8 → sProp 𝕄) :
    (bigSep Finset.univ fun c => bigSep Finset.univ fun j => Φ c j) = bigSep Finset.univ fun c => bigSep Finset.univ fun j => Φ (e j c) j := by
  rw [← bigSep_univ_prod (fun p : Dev nD × Fin 8 => Φ p.1 p.2), ← bigSep_univ_prod (fun p : Dev nD × Fin 8 => Φ (e p.2 p.1) p.2)]
  exact bigSep_univ_equiv (⟨fun p => (e p.2 p.1, p.2), fun p => ((e p.2).symm p.1, p.2),
    fun p => Prod.ext ((e p.2).symm_apply_apply p.1) rfl, fun p => Prod.ext ((e p.2).apply_symm_apply p.1) rfl⟩ : Dev nD × Fin 8 ≃ Dev nD × Fin 8) fun p => Φ p.1 p.2
omit [FloatOps F] in
theorem around_dn (Φ : Dev nD → Fin 8 → sProp 𝕄) :
    (bigSep Finset.univ fun c => bigSep Finset.univ fun j => Φ c j) = bigSep Finset.univ fun c => bigSep Finset.univ fun j => Φ (dn j c) j := around dnE Φ
omit [FloatOps F] in
theorem around_up (Φ : Dev nD → Fin 8 → sProp 𝕄) :
    (bigSep Finset.univ fun c => bigSep Finset.univ fun j => Φ c j) = bigSep Finset.univ fun c => bigSep Finset.univ fun j => Φ (up j c) j := around (fun j => (dnE j).symm) Φ

omit [FloatOps F] in
/-- The tokens dealt around the ring. -/
theorem toks_around : (bigSep Finset.univ fun c : Dev nD => (toks c : sProp 𝕄)) ⊢ bigSep Finset.univ fun c : Dev nD => payToks c := by
  unfold toks payToks payT
  simp only [bigSep_CK, PS_sep, bigSep_sep']
  iintro ⟨⟨H0f, ⟨HS0, HS1, HS2⟩, ⟨HR0, HR1, HR2⟩, HC0, HC1⟩, H0t, H1f, H1t⟩
  isplitl [H0f H0t H1f H1t]
  · isplitl [H0t]; · iapply (Entails.of_eq (bigSep_univ_equiv nxtE.symm (fun c : Dev nD => (dutyTok ER (cell c .bar) 0 true : sProp 𝕄)))); iexact H0t
    isplitl [H0f]; · iapply (Entails.of_eq (bigSep_univ_equiv nxtE (fun c : Dev nD => (dutyTok ER (cell c .bar) 0 false : sProp 𝕄)))); iexact H0f
    isplitl [H1t]; · iapply (Entails.of_eq (bigSep_univ_equiv nxtE.symm (fun c : Dev nD => (dutyTok ER (cell c .bar) 1 true : sProp 𝕄)))); iexact H1t
    iapply (Entails.of_eq (bigSep_univ_equiv nxtE (fun c : Dev nD => (dutyTok ER (cell c .bar) 1 false : sProp 𝕄)))); iexact H1f
  isplitl [HS0 HS1 HS2]
  · isplitl [HS0]; · iexact HS0
    isplitl [HS1] <;> iassumption
  isplitl [HR0 HR1 HR2]
  · isplitl [HR0]; · iapply (Entails.of_eq (around_dn fun c j => dutyTok ER (cell c (.recv 0 j)) 0 false)); iexact HR0
    isplitl [HR1]; · iapply (Entails.of_eq (around_dn fun c j => dutyTok ER (cell c (.recv 1 j)) 0 false)); iexact HR1
    iapply (Entails.of_eq (around_dn fun c j => dutyTok ER (cell c (.recv 2 j)) 0 false)); iexact HR2
  isplitl [HC0]; · iapply (Entails.of_eq (around_up fun c j => dutyTok ER (cell c (.cred 0 j)) 0 false)); iexact HC0
  iapply (Entails.of_eq (around_up fun c j => dutyTok ER (cell c (.cred 1 j)) 0 false)); iexact HC1

theorem core_alloc (c : Dev nD) :
    iprop(Pipeline.ownSems0 (Ix := Bool) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ localSems c) := by
  unfold G
  rw [ownSems0_eq, unscopedSems0_eq]
  iintro ⟨⟨Hl, Hos⟩, Hus, Hst, Hat, Htok⟩
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hus Hos Hst] with Hinv
  · isplitr [Hst]
    · iapply (Entails.of_eq (bigSep_CK (fun k : CK => (semVal (kcell (c, k)) 0 : sProp 𝕄))).symm)
      isplitl [Hus] <;> iassumption
    iexact Hst
  imodintro
  isplitl [Hinv]; · iexact Hinv
  isplitl [Hat]; · iexact Hat
  isplitl [Htok] <;> iassumption

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) : iprop(recs0 m K ∗ linear c) ⊢ G' m c := by
  unfold G'; iintro H; iexists K; iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hl⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (bigSep_with_persistent (R := recs0 m K) fun c _ => ghost_intro m K c)
  isplitr
  · unfold recs0; isplitl; · iexact HI
    iexact HR
  · unfold linear; simp only [bigSep_sep']
    isplitl [Hat]; · iexact Hat
    isplitl [Htk] <;> iassumption

/-- The global step: the own and the unscoped semaphores of every device at once. -/
theorem glob : (bigSep Finset.univ fun c => iprop(Pipeline.ownSems0 (Ix := Bool) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdealProof
-- ==== Proof.KernelIdeal.Credits.lean ====
/- The launch credit of the shared cells: what all devices together owe each cell at the start. -/
module

public import proofs.«01_k».proof.Proof.KernelIdeal.Ghost

@[expose] public section

noncomputable section

namespace Cert.KernelIdealProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Bool (Elt F) ℕ UU ℕ

set_option backward.proofsInPublic true in
/-- The strip of the `i`-th item of a hop. -/
def iJ (i : ℕ) : Fin 8 := ⟨(i - 10) % 16 / 2, by omega⟩
set_option backward.proofsInPublic true in
def iJ0 (i : ℕ) : Fin 8 := ⟨(i - 2) % 8, by omega⟩
/-- The device, the kind of cell and the index of the `i`-th item. -/
def iD (c : Dev nD) (i : ℕ) : Dev nD :=
  if i = 0 ∨ i = 42 then prv c else if i = 1 ∨ i = 43 then nxt c else if i < 10 then dn (iJ0 i) c
  else if i % 2 = 0 then up (iJ i) c else dn (iJ i) c
def iK (i : ℕ) : CK :=
  if i < 2 ∨ 42 ≤ i then .bar else if i < 10 then .recv 0 (iJ0 i)
  else if i % 2 = 0 then .cred (if i < 26 then 0 else 1) (iJ i) else .recv (if i < 26 then 1 else 2) (iJ i)
def iU (i : ℕ) : Bool := decide (42 ≤ i)

theorem item_eq (c : Dev nD) (i : ℕ) (h : i < 44) : item c i = (cell (iD c i) (iK i), iU i, amtOf (iK i)) := by
  interval_cases i <;> rfl

/-- How many items of all devices go to device `c`'s cell `k` at index `u`. -/
def cnt (c : Dev nD) (k : CK) (u : Bool) : ℕ :=
  ∑ d : Dev nD, ∑ i ∈ Finset.range 44, if c = iD d i ∧ k = iK i ∧ u = iU i then 1 else 0

set_option maxRecDepth 100000 in
theorem cnt_bar : ∀ c u, cnt c .bar u = 2 := by decide +kernel
set_option maxRecDepth 100000 in
theorem cnt_recv : ∀ c h j, cnt c (.recv h j) false = 1 ∧ cnt c (.recv h j) true = 0 := by decide +kernel
set_option maxRecDepth 100000 in
theorem cnt_cred : ∀ c h j, cnt c (.cred h j) false = 1 ∧ cnt c (.cred h j) true = 0 := by decide +kernel

theorem Ow_apply (d c : Dev nD) (k : CK) (u : Bool) :
    Ow d 0 (cell c k) u = ∑ i ∈ Finset.range 44, (if c = iD d i ∧ k = iK i ∧ u = iU i then 1 else 0) * amtOf k := by
  unfold Ow
  rw [Finset.sum_apply, Finsupp.finset_sum_apply, Finset.range_eq_Ico]
  refine Finset.sum_congr rfl fun i hi => ?_
  rw [item_eq d i (Finset.mem_Ico.mp hi).2, tallyAt_apply]
  by_cases h : c = iD d i ∧ k = iK i ∧ u = iU i
  · obtain ⟨h1, h2, h3⟩ := h
    subst h1 h2 h3
    rw [if_pos ⟨rfl, rfl⟩, if_pos ⟨rfl, rfl, rfl⟩, Nat.one_mul]
  · rw [if_neg h, if_neg, Nat.zero_mul]
    rintro ⟨h1, h2⟩
    have h3 : (c, k) = (iD d i, iK i) := kcell_injective h1
    exact h ⟨congrArg Prod.fst h3, congrArg Prod.snd h3, h2⟩

theorem launch_at (c : Dev nD) (k : CK) (u : Bool) :
    launchCredit (Pipeline.owing fun d => Ow d 0) 0 (cell c k) u = cnt c k u * amtOf k := by
  rw [Pipeline.launchCredit_owing, Finset.sum_congr rfl fun d _ => Ow_apply d c k u]
  unfold cnt; simp only [Finset.sum_mul]

/-- A cell's launch credit: that of index `false` and that of index `true`. -/
theorem launch_cell (c : Dev nD) (k : CK) :
    tallyOn (cell c k) (launchCredit (Pipeline.owing fun d => Ow d 0) 0 (cell c k))
      = (tallyAt (cell c k) false (cnt c k false * amtOf k) + tallyAt (cell c k) true (cnt c k true * amtOf k) : CellTallies nD τ sig Bool) := by
  unfold tallyAt tallyOn
  rw [← Pi.single_add]
  refine congrArg _ (Finsupp.ext fun u => ?_)
  rw [launch_at, Finsupp.add_apply, Finsupp.single_apply, Finsupp.single_apply]
  cases u
  · rw [if_pos rfl, if_neg (by decide), Nat.add_zero]
  · rw [if_neg (by decide), if_pos rfl, Nat.zero_add]

/-- The credit a core starts with for a cell. -/
def credAt (c : Dev nD) (k : CK) : sProp 𝕄 := cred (tallyOn (cell c k) (launchCredit (Pipeline.owing fun d => Ow d 0) 0 (cell c k)))

omit [FloatOps F] in
theorem credAt_bar (c : Dev nD) : (credAt c .bar : sProp 𝕄) ⊢ iprop(cred (tallyAt (cell c .bar) false 2) ∗ cred (tallyAt (cell c .bar) true 2)) := by
  unfold credAt; rw [launch_cell, cnt_bar, cnt_bar]; exact (cred_add _ _).1
omit [FloatOps F] in
theorem credAt_recv (c : Dev nD) (h j) : (credAt c (.recv h j) : sProp 𝕄) ⊢ cred (tallyAt (cell c (.recv h j)) false N) := by
  unfold credAt; rw [launch_cell, (cnt_recv c h j).1, show 1 * amtOf (.recv h j) = N from Nat.one_mul N]
  exact (cred_add _ _).1.trans (by iintro ⟨H, -⟩; iexact H)
omit [FloatOps F] in
theorem credAt_cred (c : Dev nD) (h j) : (credAt c (.cred h j) : sProp 𝕄) ⊢ cred (tallyAt (cell c (.cred h j)) false 1) := by
  unfold credAt; rw [launch_cell, (cnt_cred c h j).1, show 1 * amtOf (.cred h j) = 1 from rfl]
  exact (cred_add _ _).1.trans (by iintro ⟨H, -⟩; iexact H)

/-- The credit a core's waits spend. -/
def creds (c : Dev nD) (j : Fin 8) : sProp 𝕄 :=
  iprop((cred (tallyAt (cell c (.recv 0 j)) false N) ∗ cred (tallyAt (cell c (.recv 1 j)) false N) ∗ cred (tallyAt (cell c (.recv 2 j)) false N))
    ∗ cred (tallyAt (cell c (.cred 0 j)) false 1) ∗ cred (tallyAt (cell c (.cred 1 j)) false 1))

omit [FloatOps F] in
theorem creds_strip (c : Dev nD) (j : Fin 8) : PS (F := F) (credAt c) j ⊢ creds c j := by
  unfold PS creds
  iintro ⟨-, ⟨H0, H1, H2⟩, H3, H4⟩
  isplitl [H0 H1 H2]
  · isplitl [H0]; · iapply (credAt_recv c 0 j); iexact H0
    isplitl [H1]; · iapply (credAt_recv c 1 j); iexact H1
    iapply (credAt_recv c 2 j); iexact H2
  isplitl [H3]; · iapply (credAt_cred c 0 j); iexact H3
  iapply (credAt_cred c 1 j); iexact H4

omit [FloatOps F] in
theorem launch_cells (c : Dev nD) : (Pipeline.launchCred (fun d => Ow d 0) c : sProp 𝕄) ⊢ bigSep Finset.univ (credAt (F := F) c) := by
  have h0 : (bigSep (Finset.univ.map ⟨csem, csem_injective⟩) fun sm : SemLoc sig =>
      (cred (tallyOn ((c : Thread nD τ), sm) (launchCredit (Pipeline.owing fun d => Ow d 0) 0 ((c : Thread nD τ), sm))) : sProp 𝕄))
        = bigSep Finset.univ (credAt (F := F) c) := by
    rw [bigSep_map]; rfl
  unfold Pipeline.launchCred
  rw [← h0]
  exact bigSep_subset (Finset.subset_univ _)

omit [FloatOps F] in
theorem creds_intro (c : Dev nD) :
    (Pipeline.launchCred (fun d => Ow d 0) c : sProp 𝕄)
      ⊢ iprop((cred (tallyAt (cell c .bar) false 2) ∗ cred (tallyAt (cell c .bar) true 2)) ∗ bigSep Finset.univ (creds c)) := by
  refine (launch_cells c).trans ?_
  rw [bigSep_CK]
  iintro ⟨HB, HP⟩
  isplitl [HB]; · iapply (credAt_bar c); iexact HB
  iapply (show bigSep Finset.univ (PS (F := F) (credAt c)) ⊢ bigSep Finset.univ (creds c) from bigSep_mono fun j _ => creds_strip c j); iexact HP

end Cert.KernelIdealProof
-- ==== Proof.KernelIdeal.Bufs.lean ====
/- The strip buffer and the result array taken apart into the strips the proof follows, and put together again. -/
module

public import proofs.«01_k».proof.Proof.KernelIdeal.Body
public import Idealize.ShloMosaic.Lib.Ring

@[expose] public section

noncomputable section

namespace Cert.KernelIdealProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Bool (Elt F) ℕ UU ℕ

variable (m : (ℓ : Loc nD τ sig) → Buf (Elt F) ℓ)

/-! ## The strip buffer -/

/-- The elements of strip `j` of side `s`. -/
def cmI (p : Fin 2 × Fin 8) : Finset S2x8x1024x512.Idx := (cmR p.1 p.2).set

theorem mem_cmI (p : Fin 2 × Fin 8) (i : S2x8x1024x512.Idx) : i ∈ cmI p ↔ (i 0).val = p.1.val ∧ (i 1).val = p.2.val := by
  unfold cmI; rw [Rect.mem_set_unit]
  constructor
  · intro h
    have e0 : p.1.val ≤ (i 0).val ∧ (i 0).val < p.1.val + 1 := h 0
    have e1 : p.2.val ≤ (i 1).val ∧ (i 1).val < p.2.val + 1 := h 1
    omega
  · rintro ⟨e0, e1⟩ a
    have l2 : (i 2).val < 1024 := (i 2).isLt
    have l3 : (i 3).val < 512 := (i 3).isLt
    match a with
    | ⟨0, _⟩ => show p.1.val ≤ (i 0).val ∧ (i 0).val < p.1.val + 1; omega
    | ⟨1, _⟩ => show p.2.val ≤ (i 1).val ∧ (i 1).val < p.2.val + 1; omega
    | ⟨2, _⟩ => show 0 ≤ (i 2).val ∧ (i 2).val < 0 + 1024; omega
    | ⟨3, _⟩ => show 0 ≤ (i 3).val ∧ (i 3).val < 0 + 512; omega

theorem cmI_disjoint (p p' : Fin 2 × Fin 8) (h : p ≠ p') : Disjoint (cmI p) (cmI p') := by
  rw [Finset.disjoint_left]; intro i h1 h2
  rw [mem_cmI] at h1 h2
  exact h (Prod.ext (Fin.ext (h1.1.symm.trans h2.1)) (Fin.ext (h1.2.symm.trans h2.2)))
theorem cmI_cover : Finset.univ.biUnion cmI = Finset.univ := by
  ext i; simp only [Finset.mem_biUnion, Finset.mem_univ, true_and, iff_true]
  exact ⟨(i 0, i 1), (mem_cmI _ _).mpr ⟨rfl, rfl⟩⟩

theorem cmS_set (s : Fin 2) (j : Fin 8) : (cmS s j).view.set = cmI (s, j) :=
  (View.set_reshape _ _).trans (View.set_slice_whole _ _)

/-- A strip holding anything, at the strip buffer's location. -/
theorem stripE_eq (c : Dev nD) (s : Fin 2) (j : Fin 8) :
    stripE (F := F) c s j = iprop(∃ f, ((c : Thread nD τ).loc cc0_scratch4 ↦[cmI (s, j)]{fullShare} f)) := by
  unfold stripE; rw [cmS_set]

theorem strips_eq (c : Dev nD) :
    (bigSep Finset.univ fun p : Fin 2 × Fin 8 => iprop(∃ f, ((c : Thread nD τ).loc cc0_scratch4 ↦[cmI p]{fullShare} f) : sProp 𝕄))
      = iprop((bigSep Finset.univ fun j => stripE c 0 j) ∗ bigSep Finset.univ fun j => stripE c 1 j) := by
  rw [bigSep_univ_prod, bigSep_univ_eq_bigSepL [0, 1] (by decide) (by decide), bigSepL_cons_cons, bigSepL_singleton]
  simp only [stripE_eq]; rfl

omit [FloatOps F] in
theorem some_pts {ℓ : Loc nD τ sig} {I : Finset (ℓ.2.ty).shape.Idx} (f : Buf (Elt F) ℓ) :
    (ℓ ↦[I]{fullShare} f : sProp 𝕄) ⊢ iprop(∃ f, ℓ ↦[I]{fullShare} f) := by
  iintro H; iexists f; iexact H

theorem cm_split (c : Dev nD) (f : Buf (Elt F) ((c : Thread nD τ).loc cc0_scratch4)) :
    ((c : Thread nD τ).loc cc0_scratch4 ↦{fullShare} f : sProp 𝕄)
      ⊢ iprop((bigSep Finset.univ fun j => stripE c 0 j) ∗ bigSep Finset.univ fun j => stripE c 1 j) := by
  rw [← strips_eq, Ring.pointsTo_blocks (ℓ := (c : Thread nD τ).loc cc0_scratch4) cmI cmI_disjoint cmI_cover f]
  exact bigSep_mono fun p _ => some_pts f
theorem cm_join (c : Dev nD) (f₀ : Buf (Elt F) ((c : Thread nD τ).loc cc0_scratch4)) :
    iprop((bigSep Finset.univ fun j => stripE c 0 j) ∗ bigSep Finset.univ fun j => stripE c 1 j)
      ⊢ (iprop(∃ f, (c : Thread nD τ).loc cc0_scratch4 ↦{fullShare} f) : sProp 𝕄) := by
  rw [← strips_eq]
  exact Ring.pointsTo_blocks_join_exists (ℓ := (c : Thread nD τ).loc cc0_scratch4) cmI cmI_disjoint cmI_cover f₀

/-! ## The result array -/

/-- The elements of column strip `j`. -/
def oI (j : Fin 8) : Finset S1024x4096.Idx := (oR j).set

theorem mem_oI (j : Fin 8) (i : S1024x4096.Idx) : i ∈ oI j ↔ (i 1).val / 512 = j.val := by
  unfold oI; rw [Rect.mem_set_unit]
  constructor
  · intro h
    have e1 : 512 * j.val ≤ (i 1).val ∧ (i 1).val < 512 * j.val + 512 := h 1
    omega
  · intro e a
    have l0 : (i 0).val < 1024 := (i 0).isLt
    match a with
    | ⟨0, _⟩ => show 0 ≤ (i 0).val ∧ (i 0).val < 0 + 1024; omega
    | ⟨1, _⟩ => show 512 * j.val ≤ (i 1).val ∧ (i 1).val < 512 * j.val + 512; omega

theorem oI_disjoint (j j' : Fin 8) (h : j ≠ j') : Disjoint (oI j) (oI j') := by
  rw [Finset.disjoint_left]; intro i h1 h2
  rw [mem_oI] at h1 h2
  exact h (Fin.ext (h1.symm.trans h2))
theorem oI_cover : Finset.univ.biUnion oI = Finset.univ := by
  ext i; simp only [Finset.mem_biUnion, Finset.mem_univ, true_and, iff_true]
  have l1 : (i 1).val < 4096 := (i 1).isLt
  exact ⟨⟨(i 1).val / 512, by omega⟩, (mem_oI _ _).mpr rfl⟩

theorem oS_set (j : Fin 8) : (oS j).view.set = oI j := View.set_slice_whole _ _

omit [FloatOps F] in
theorem o_some (c : Dev nD) (f : Buf (Elt F) ((c : Thread nD τ).loc main_v1)) (j : Fin 8) :
    ((c : Thread nD τ).loc main_v1 ↦[oI j]{fullShare} f : sProp 𝕄)
      ⊢ iprop(∃ f, ((oS j).view.loc (c : Thread nD τ) ↦[(oS j).view.set]{fullShare} f)) := by
  rw [oS_set]; exact some_pts f

theorem o_split (c : Dev nD) (f : Buf (Elt F) ((c : Thread nD τ).loc main_v1)) :
    ((c : Thread nD τ).loc main_v1 ↦{fullShare} f : sProp 𝕄)
      ⊢ bigSep Finset.univ fun j => iprop(∃ f, ((oS j).view.loc (c : Thread nD τ) ↦[(oS j).view.set]{fullShare} f)) := by
  rw [Ring.pointsTo_blocks (ℓ := (c : Thread nD τ).loc main_v1) oI oI_disjoint oI_cover f]
  exact BI.bigSep_mono fun j _ => o_some c f j

/-- A strip of the result holding `v`, at contents that name `v` alone. -/
theorem outS_at (c : Dev nD) (j : Fin 8) (v : S1024x512.Idx → Elt F .bf16) (f₀ : Buf (Elt F) ((c : Thread nD τ).loc main_v1)) :
    outS c j v ⊢ ((c : Thread nD τ).loc main_v1 ↦[oI j]{fullShare} ((oS j).view.write (Elt F) f₀ v Finset.univ) : sProp 𝕄) := by
  unfold outS; rw [oS_set]
  iintro ⟨%f, %hf, H⟩
  iapply (Entails.of_eq (pointsTo_congr (ℓ := (c : Thread nD τ).loc main_v1) (I := oI j) (f := f) (g := (oS j).view.write (Elt F) f₀ v Finset.univ) (q := fullShare) fun i hi => by
    rw [← oS_set] at hi
    obtain ⟨x, -, rfl⟩ := Finset.mem_map.mp hi
    exact (congrFun hf x).trans (View.write_emb_of_mem (Val := Elt F) (v := (oS j).view) f₀ v (Finset.mem_univ x)).symm))
  iexact H

/-- The strips of the result, each holding what it should, are the array holding it. -/
theorem o_join (c : Dev nD) (v : Fin 8 → S1024x512.Idx → Elt F .bf16) (f₀ : Buf (Elt F) ((c : Thread nD τ).loc main_v1)) :
    (bigSep Finset.univ fun j => outS c j (v j))
      ⊢ (iprop(∃ g, ⌜∀ j, (oS j).view.read (Elt F) g = v j⌝ ∗ (c : Thread nD τ).loc main_v1 ↦{fullShare} g) : sProp 𝕄) := by
  refine (bigSep_mono fun j _ => outS_at c j (v j) f₀).trans ?_
  refine (pointsTo_biUnion_join (ℓ := (c : Thread nD τ).loc main_v1) Finset.univ oI (fun j => (oS j).view.write (Elt F) f₀ (v j) Finset.univ) f₀
    (fun b _ b' _ h => oI_disjoint b b' h)).trans ?_
  rw [oI_cover]
  iintro ⟨%g, %hg, H⟩
  iexists g
  isplitr
  · ipureintro; intro j
    rw [View.read_congr (Val := Elt F) (v := (oS j).view) (g := (oS j).view.write (Elt F) f₀ (v j) Finset.univ) (fun i hi => hg j (Finset.mem_univ j) i (by rw [← oS_set]; exact hi))]
    exact View.read_write_univ (Val := Elt F) (v := (oS j).view) f₀ (v j)
  iexact H

end Cert.KernelIdealProof
-- ==== Proof.KernelIdeal.Run.lean ====
/- The run of the kernel on all devices: what the launch hands each core becomes what its body starts from, what the
   body leaves is what the launch takes back, and the whole memory at the end is read off. -/
module

public import proofs.«01_k».proof.Proof.KernelIdeal.Credits
public import proofs.«01_k».proof.Proof.KernelIdeal.Bufs
public import Idealize.ShloMosaic.Lib.Pipeline.CollectiveSegs

@[expose] public section

set_option maxRecDepth 16384

noncomputable section

namespace Cert.KernelIdealProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Bool (Elt F) ℕ UU ℕ

variable (m : (ℓ : Loc nD τ sig) → Buf (Elt F) ℓ) (ρ : Dev nD → PrngReg)

/-! ## Before the body -/

/-- What a strip's cells give at the start. -/
def posS (c : Dev nD) : Fin 8 → sProp 𝕄 := PS fun k => atPos ER (cell c k) 0 ∅ 0

theorem strip_start (c : Dev nD) (j : Fin 8) :
    iprop(posS (F := F) c j ∗ payT c j ∗ creds c j ∗ ((∃ f, ((oS j).view.loc (c : Thread nD τ) ↦[(oS j).view.set]{fullShare} f))
      ∗ semVal ((c : Thread nD τ), .dma (outSm j)) 0) ∗ stripE c 0 j) ⊢ Pst (F := F) c j := by
  unfold posS PS payT creds Pst pend pendC outE
  iintro ⟨⟨⟨P0, P1, P2⟩, ⟨R0, R1, R2⟩, C0, C1⟩, ⟨⟨T0, T1, T2⟩, ⟨U0, U1, U2⟩, V0, V1⟩, ⟨⟨K0, K1, K2⟩, Q0, Q1⟩, Ho, Hs⟩
  isplitr [Hs]
  · isplitl [P0 R0 K0 T0 U0]
    · isplitl [P0]; · iexact P0
      isplitl [R0]; · iexact R0
      isplitl [K0]; · iexact K0
      isplitl [T0] <;> iassumption
    isplitl [P1 R1 K1 T1 U1]
    · isplitl [P1]; · iexact P1
      isplitl [R1]; · iexact R1
      isplitl [K1]; · iexact K1
      isplitl [T1] <;> iassumption
    isplitl [P2 R2 K2 T2 U2]
    · isplitl [P2]; · iexact P2
      isplitl [R2]; · iexact R2
      isplitl [K2]; · iexact K2
      isplitl [T2] <;> iassumption
    isplitl [C0 Q0 V0]
    · isplitl [C0]; · iexact C0
      isplitl [Q0] <;> iassumption
    isplitl [C1 Q1 V1]
    · isplitl [C1]; · iexact C1
      isplitl [Q1] <;> iassumption
    iexact Ho
  iexact Hs

theorem strips_start (c : Dev nD) :
    iprop(bigSep Finset.univ (posS (F := F) c) ∗ bigSep Finset.univ (payT (F := F) c) ∗ bigSep Finset.univ (creds (F := F) c)
      ∗ ((bigSep Finset.univ fun j => iprop(∃ f, ((oS j).view.loc (c : Thread nD τ) ↦[(oS j).view.set]{fullShare} f)))
        ∗ bigSep Finset.univ fun j => semVal ((c : Thread nD τ), .dma (outSm j)) 0)
      ∗ bigSep Finset.univ fun j => stripE c 0 j) ⊢ bigSep Finset.univ (Pst (F := F) c) := by
  simp only [← bigSep_sep']
  exact bigSep_mono fun j _ => strip_start c j

/-- The arrays of device `c` at the contents `m` holds. -/
def arrs (c : Dev nD) : sProp 𝕄 :=
  iprop(((c : Thread nD τ).loc main_arg0 ↦{fullShare} m ((c : Thread nD τ).loc main_arg0))
    ∗ ((c : Thread nD τ).loc main_arg1 ↦{fullShare} m ((c : Thread nD τ).loc main_arg1))
    ∗ ((c : Thread nD τ).loc main_v1 ↦{fullShare} m ((c : Thread nD τ).loc main_v1)))

/-- What core `c` enters with. -/
def start (c : Dev nD) : sProp 𝕄 :=
  iprop((∃ K, recs m K ∗ linear c) ∗ ((cred (tallyAt (cell c .bar) false 2) ∗ cred (tallyAt (cell c .bar) true 2)) ∗ bigSep Finset.univ (creds c)) ∗ arrs m c)

/-- Before the body, and after it. -/
def Φ₀ (c : Dev nD) : sProp 𝕄 :=
  iprop(∃ K, recs m K ∗ barRes c ∗ bigSep Finset.univ (Pst c) ∗ bigSep Finset.univ (fun j => stripE c 1 j) ∗ ownB m c)
def Φ₁ (c : Dev nD) : sProp 𝕄 := iprop(semVal (cell c .bar) 0 ∗ bigSep Finset.univ (P5 m c) ∗ ownB m c)

theorem start_intro (c : Dev nD) :
    iprop(Pipeline.unscopedRestP Pipeline.Prefetch.none cfg0.spec c (fun b => m ((c : Thread nD τ).loc b)) ∗ levAts L lv
        ∗ Pipeline.launchCred (fun d => Ow d 0) c ∗ prngReg c (ρ c) ∗ G' m c)
      ⊢ |={Set.univ}=> iprop(start m c ∗ emp) := by
  rw [Pipeline.unscopedRestP_none, unscopedRest0_eq]
  unfold start G' recs recs0 arrs
  iintro ⟨Harr, #Hlev, Hcr, -, ⟨%K, ⟨#HI, #HR⟩, Hlin⟩⟩
  ihave Hc := (creds_intro (F := F) c) $$ Hcr
  imodintro
  isplitl
  · isplitl [Hlin]
    · iexists K
      isplitr
      · isplitr; · iexact HI
        isplitr; · iexact HR
        iexact Hlev
      iexact Hlin
    isplitl [Hc]; · iexact Hc
    iexact Harr
  · iempintro

theorem phi0_start (c : Dev nD) :
    iprop(start m c ∗ Pipeline.scopedRest cfg0.spec c) ⊢ Φ₀ m c := by
  rw [scopedRest0_eq]
  unfold start Φ₀ linear payToks localSems arrs barRes ownB aIdle bIdle
  simp only [bigSep_CK]
  iintro ⟨⟨⟨%K, #HR, ⟨Hbp, Hpos⟩, ⟨⟨B0, B1, B2, B3⟩, Hpay⟩, ⟨S5, S6⟩, Hout⟩, ⟨⟨C0, C1⟩, Hcr⟩, ⟨HA, HB, HO⟩⟩, ⟨X0, X1, X2, X3, ⟨%f, X4⟩⟩⟩
  ihave Ho := (o_split (F := F) c _) $$ HO
  ihave Hcm := (cm_split (F := F) c f) $$ X4
  icases Hcm with ⟨Hs0, Hs1⟩
  iexists K
  isplitr; · iexact HR
  isplitl [Hbp B0 B1 B2 B3 C0 C1]
  · isplitl [Hbp]; · iexact Hbp
    isplitl [C0]; · iexact C0
    isplitl [C1]; · iexact C1
    isplitl [B0]; · iexact B0
    isplitl [B1]; · iexact B1
    isplitl [B2] <;> iassumption
  isplitl [Hpos Hpay Hcr Ho Hout Hs0]
  · iapply (strips_start c)
    isplitl [Hpos]; · iexact Hpos
    isplitl [Hpay]; · iexact Hpay
    isplitl [Hcr]; · iexact Hcr
    isplitl [Ho Hout]
    · isplitl [Ho] <;> iassumption
    iexact Hs0
  isplitl [Hs1]; · iexact Hs1
  isplitl [X0 HA S5]
  · isplitl [X0]; · iexact X0
    isplitl [HA] <;> iassumption
  isplitl [X2 HB S6]
  · isplitl [X2]; · iexact X2
    isplitl [HB] <;> iassumption
  isplitl [X1] <;> iassumption

/-! ## After the body -/

theorem strip_end (c : Dev nD) (j : Fin 8) :
    P5 m c j ⊢ iprop(PS (fun k => semVal (cell c k) 0) j ∗ (stripE c 0 j ∗ stripE c 1 j) ∗ outS c j (accV m j 3 c) ∗ semVal ((c : Thread nD τ), .dma (outSm j)) 0) := by
  unfold P5 PS zs zc
  iintro ⟨⟨⟨⟨⟨S0, R0⟩, C0, -⟩, ⟨S1, R1⟩, C1⟩, ⟨S2, R2⟩, H0⟩, Ho, H1, Hz⟩
  isplitl [S0 S1 S2 R0 R1 R2 C0 C1]
  · isplitl [S0 S1 S2]
    · isplitl [S0]; · iexact S0
      isplitl [S1] <;> iassumption
    isplitl [R0 R1 R2]
    · isplitl [R0]; · iexact R0
      isplitl [R1] <;> iassumption
    isplitl [C0] <;> iassumption
  isplitl [H0 H1]
  · isplitl [H0] <;> iassumption
  isplitl [Ho] <;> iassumption

theorem strips_end (c : Dev nD) :
    bigSep Finset.univ (P5 m c) ⊢ iprop(bigSep Finset.univ (PS fun k => semVal (cell c k) 0)
      ∗ ((bigSep Finset.univ fun j => stripE c 0 j) ∗ bigSep Finset.univ fun j => stripE c 1 j)
      ∗ (bigSep Finset.univ fun j => outS c j (accV m j 3 c)) ∗ bigSep Finset.univ fun j => semVal ((c : Thread nD τ), .dma (outSm j)) 0) := by
  simp only [← bigSep_sep']
  exact bigSep_mono fun j _ => strip_end m c j

/-- What is kept past the end of the kernel: the barrier's cell at zero, the arguments as they were, the result. -/
def fin (c : Dev nD) : sProp 𝕄 :=
  iprop(unscopedSems0 c ∗ ((c : Thread nD τ).loc main_arg0 ↦{fullShare} m ((c : Thread nD τ).loc main_arg0))
    ∗ ((c : Thread nD τ).loc main_arg1 ↦{fullShare} m ((c : Thread nD τ).loc main_arg1))
    ∗ ∃ g, ⌜∀ j, (oS j).view.read (Elt F) g = accV m j 3 c⌝ ∗ ((c : Thread nD τ).loc main_v1 ↦{fullShare} g))

theorem phi1_fin (c : Dev nD) :
    Φ₁ m c ⊢ iprop(fin m c ∗ Pipeline.ownSems0 osem c ∗ Pipeline.scopedRest cfg0.spec c) := by
  unfold Φ₁ fin
  rw [scopedRest0_eq, ownSems0_eq, unscopedSems0_eq]
  unfold ownB aIdle bIdle localSems
  iintro ⟨Hb, HP, ⟨X0, HA, S5⟩, ⟨X2, HB, S6⟩, X1, X3⟩
  ihave HP' := (strips_end m c) $$ HP
  icases HP' with ⟨Hps, Hcm, Ho, Hz⟩
  ihave Ho' := (o_join (F := F) c (fun j => accV m j 3 c) (m ((c : Thread nD τ).loc main_v1))) $$ Ho
  ihave X4 := (cm_join (F := F) c (m ((c : Thread nD τ).loc cc0_scratch4))) $$ Hcm
  isplitl [Hb HA HB Ho']
  · isplitl [Hb]; · iexact Hb
    isplitl [HA]; · iexact HA
    isplitl [HB] <;> iassumption
  isplitl [S5 S6 Hz Hps]
  · isplitr [Hps]
    · isplitl [S5 S6]
      · isplitl [S5] <;> iassumption
      iexact Hz
    iexact Hps
  isplitl [X0]; · iexact X0
  isplitl [X1]; · iexact X1
  isplitl [X2]; · iexact X2
  isplitl [X3] <;> iassumption

/-! ## The region -/

def dats (_ : Fin 1) (c : Dev nD) : Pipeline.Dat τ (Elt F) Bool ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => Ow c 0
    | ⟨_ + 1, _⟩ => 0

theorem share_eq (c : Dev nD) (w : Fin cfg0.W) : (dats m 0 c).share w = fullShare := w.elim0

theorem body_obligation (c : Dev nD) : Pipeline.BodyObligation (dats (F := F) m 0 c) (defs₀ (F := F)) 𝒱₀ false Set.univ := fun t => by
  rw [fin_N0 t]
  show iprop(Φ₀ m c ∗ (dats m 0 c).owesAt false t0_0.castSucc ∗ _) ⊢ WP c (bodyAt0 t0_0)
    (fun _ => iprop(Φ₁ m c ∗ (dats m 0 c).owesAt false t0_0.succ ∗ _))
  rw [bodyAt0_eq]
  unfold Pipeline.Dat.owesAt Pipeline.owesWithin
  rw [show (dats m 0 c).owed t0_0.castSucc = Ow c 0 from rfl, show (dats m 0 c).owed t0_0.succ = Ow c 44 from (Ow_end c).symm]
  unfold Φ₀ Φ₁
  iintro ⟨⟨%K, HR, Hb, HP, Hs, Ho⟩, ⟨%W, -, HO⟩, Hw⟩
  iapply (sound_body m K c)
  unfold bodyPre bodyPost owesE
  isplitr [Hw]
  · isplitl [HR]; · iexact HR
    isplitl [HO]; · iexists W; iexact HO
    isplitl [Hb]; · iexact Hb
    isplitl [HP]; · iexact HP
    isplitl [Hs] <;> iassumption
  iintro ⟨⟨%W', HO⟩, Hb, HP, Ho⟩
  isplitl [Hb HP Ho]
  · isplitl [Hb]; · iexact Hb
    isplitl [HP] <;> iassumption
  isplitl [HO]
  · iexists W'; isplitr
    · ipureintro; exact fun _ _ => Or.inl trivial
    iexact HO
  iexact Hw

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨Hs, -, Hr⟩
  iapply (phi0_start m c)
  isplitl [Hs] <;> iassumption

theorem waits (c : Dev nD) : (levAts L lv : sProp 𝕄) ⊢ Pipeline.cellsWaits cfgs (dats m) false 0 c :=
  Pipeline.cellsWaits_intro cfgs (dats m) false 0 c fun w => w.elim0

theorem start_ghost : (ownU u₀ : sProp 𝕄)
    ⊢ |={Set.univ}=> iprop(BI.own (EP (F := F) (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX' := (own_pair_emb (embR : Emb (UB × Counters) 𝕄) (initOf ringCells ringToks) 1) $$ HX
  icases HX' with ⟨HX, -⟩
  imod (fund_ring m) $$ HX with HG
  imodintro
  isplitl [HP] <;> iassumption

/-- The memory at the end: the arguments as they were, each strip of the result at the accumulated value, the cells that are not a kernel's own at zero. -/
def QY (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ ∀ j, (oS j).view.read (Elt F) (s.mem ((c : Thread nD τ).loc main_v1)) = accV m j 3 c)
  ∧ ∀ sm : SemLoc sig, sm.isScoped .tc = false → s.sem ((c : Thread nD τ), sm) = 0

theorem read_end (c : Dev nD) (s' : Phys nD τ sig (Elt F)) :
    iprop(fin m c ∗ emp ∗ SI s') ⊢ (|={Set.univ}=> iprop(⌜QY m c s'.mem⌝ ∗ SI s') : sProp 𝕄) := by
  unfold fin
  iintro ⟨⟨Hu, HA, HB, ⟨%g, %hg, HO⟩⟩, -, HSI⟩
  icombine HSI HA gives %h0
  icombine HSI HB gives %h1
  icombine HSI HO gives %h2
  imod (Pipeline.unscopedSems0_read (X := unscopedSems0 c) (c := c) fupd_intro s') $$ [Hu HSI] with ⟨%hs, HSI⟩
  · isplitl [Hu] <;> iassumption
  imodintro
  isplitr
  · ipureintro
    have e2 : s'.mem.mem ((c : Thread nD τ).loc main_v1) = g := funext fun i => h2 i (Finset.mem_univ i)
    exact ⟨⟨funext fun i => h0 i (Finset.mem_univ i), funext fun i => h1 i (Finset.mem_univ i), fun j => by rw [e2]; exact hg j⟩, hs⟩
  iexact HSI

def s₀ : MemSt nD τ sig (Elt F) := ⟨m, fun _ => 0, ρ⟩

/-- From any memory with zero counters every fair execution of the kernel on the four devices terminates, with the
    arguments unchanged, each strip of each device's result at the accumulated value, and every counter at zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ ∀ j, (oS j).view.read (Elt F) (r.2.mem ((c : Thread nD τ).loc main_v1)) = accV m j 3 c)
    ∧ r.2.sem = fun _ => 0) :=
  Pipeline.θ_run_region_owing_glob_pf (fun p => (cfgs p).toPCfg) (fun p => (cfgs p).toPCfg_adm) (dats m) false cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := fun d => Ow d 0) (howed₀ := fun _ => rfl) (howedN := fun _ => rfl)
    (L := L) (lv := lv) (hL := L_of_ne) (hwaits := waits m)
    (G := G m) (G' := G' m) (u₀ := u₀) (hu₀ := start_ghost m) (hglob := glob m)
    (hA := fun _ w => w.elim0) (hpf := fun _ k => k.elim0)
    (X := start m) (Y := fin m) (Z := fun _ => iprop(emp))
    (hX := start_intro m ρ) (hin := phi0_intro m) (hout := phi1_fin m)
    (QY := QY m) (hY := read_end m)
    (hQ := fun _ h hs => ⟨fun c => (h c).2.2.1, sem_eq_zero hs fun c => (h c).2.2.2⟩)

end Cert.KernelIdealProof
-- ==== Proof.Sums.lean ====
/- Two facts about finite sums: a matrix product of plain shape as a sum over the contracted coordinate, and a sum over
   8192 positions as the sum over four blocks of 2048. -/
module

public import Idealize.ShloMosaic.Lib.MatmulPlain

@[expose] public section

noncomputable section

namespace Cert.Sums

open Idealize.ShloMosaic Idealize.ShloMosaic.ValueIdx
open scoped BigOperators

/-- Column `k` of block `d` as a column of the whole. -/
def at4 (d : Fin 4) (k : Fin 2048) : Fin 8192 := ⟨d.val * 2048 + k.val, by have := d.isLt; have := k.isLt; omega⟩

/-- A sum over all positions is the sum over the blocks of the sums within a block. -/
theorem sum_blocks (f : Fin 8192 → EReal) : ∑ x, f x = ∑ d : Fin 4, ∑ k : Fin 2048, f (at4 d k) := by
  rw [← Fintype.sum_prod_type' (f := fun d k => f (at4 d k))]
  exact (Fintype.sum_equiv (⟨fun p => at4 p.1 p.2, fun x => (⟨x.val / 2048, by have := x.isLt; omega⟩, ⟨x.val % 2048, Nat.mod_lt _ (by decide)⟩),
    fun p => by
      have h1 := p.1.isLt; have h2 := p.2.isLt
      apply Prod.ext <;> apply Fin.ext
      · show (p.1.val * 2048 + p.2.val) / 2048 = p.1.val; omega
      · show (p.1.val * 2048 + p.2.val) % 2048 = p.2.val; omega,
    fun x => Fin.ext (by show x.val / 2048 * 2048 + x.val % 2048 = x.val; omega)⟩ : Fin 4 × Fin 2048 ≃ Fin 8192)
    (fun p => f (at4 p.1 p.2)) f fun _ => rfl).symm

/-- The host's product of plain shape, at a row and a column. -/
theorem dot_plain {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c) = ∑ k : Fin K, lhs (ix2 r k) * rhs (ix2 k c) := by
  have h := Ideal.matmul_plain_apply prec lhs rhs (fun _ => 0) r c
  rw [Ideal.matmul_apply, zero_add, zero_add] at h
  rw [Ideal.dotGeneral_apply]; exact h

/-- The matrix unit's, from a zero accumulator. -/
theorem matmul_plain {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c) = ∑ k : Fin K, lhs (ix2 r k) * rhs (ix2 k c) := by
  have h := Ideal.matmul_plain_apply prec lhs rhs (fun _ => 0) r c
  rw [Ideal.matmul_apply, zero_add, zero_add] at h
  rw [Ideal.matmul_constant_zero_apply]; exact h

end Cert.Sums
-- ==== Proof.Value.lean ====
/- The value of the result. A strip's accumulated value is, entry by entry, the sum over the four devices of each
   device's share of the contraction, and the reference's product is the same sum over all of it. -/
module

public import proofs.«01_k».proof.Proof.Sums
public import proofs.«01_k».proof.Proof.KernelIdeal.Common
public import proofs.«01_k».proof.Proof.Gen.ReferenceIdeal
public import Idealize.ShloMosaic.Lib.Layout
public import Idealize.ShloMosaic.Lib.ValueLayout

@[expose] public section

set_option maxRecDepth 16384

noncomputable section

namespace Cert.Value

open Idealize.ShloMosaic Idealize.ShloMosaic.TcCoe Idealize.ShloMosaic.ValueIdx
open Cert.KernelIdeal Cert.KernelIdeal.Gen Cert.KernelIdealProof Cert.Sums
open scoped BigOperators

/-! ## One device's product -/

variable (m : (ℓ : Loc nD τ sig) → Buf (Elt Ideal) ℓ)

/-- Column `l` of strip `j` as a column of the whole. -/
def colS (j : Fin 8) (l : Fin 512) : Fin 4096 := ⟨512 * j.val + l.val, by have := j.isLt; have := l.isLt; omega⟩

theorem dims_eq : dot_S1024x2048_S2048x512_S1024x512_1_0_0_1_n_n = DotDims.plain 1024 2048 512 := rfl

theorem chunk_apply (d : Dev nD) (k : Fin 4) (s : Fin 3) (r : Fin 1024) (l : Fin 2048) :
    (abM).view.readAt (Elt Ideal) (abR' s).toLoadRect (At m d k) (ix3 (0 : Fin 1) r l) = A0 m d (aIdx d k r l) := by
  show A0 m d _ = _
  refine congrArg (A0 m d) ?_
  funext a; apply Fin.ext
  match a with
  | ⟨0, _⟩ => show 1024 * (rowA d k).val + (0 + 1 * r.val) = 1024 * (rowA d k).val + r.val; omega
  | ⟨1, _⟩ => show 0 + 1 * l.val = l.val; omega

theorem strip_apply (d : Dev nD) (j : Fin 8) (k : Fin 2048) (l : Fin 512) :
    (bbM).view.readAt (Elt Ideal) (bbR' j).toLoadRect (Bt m d) (ix2 k l) = B0 m d (ix2 k (colS j l)) := by
  show B0 m d _ = _
  refine congrArg (B0 m d) ?_
  funext a; apply Fin.ext
  match a with
  | ⟨0, _⟩ => show 0 + 1 * k.val = k.val; omega
  | ⟨1, _⟩ => show 512 * j.val + 1 * l.val = 512 * j.val + l.val; omega

theorem prod_apply (s : Fin 4) (j : Fin 8) (d : Dev nD) (r : Fin 1024) (l : Fin 512) :
    prodV m s j d (ix2 r l) = ∑ k : Fin 2048, A0 m d (aIdx d (kOf s j) r k) * B0 m d (ix2 k (colS j l)) := by
  unfold prodV dotV
  rw [dims_eq]
  refine (matmul_plain (φ₁ := .bf16) (φ₂ := .bf16) none _ _ r l).trans (Finset.sum_congr rfl fun k _ => ?_)
  rw [strip_apply, shapeCast_1ab_ab_apply, chunk_apply]

/-! ## The accumulated value -/

theorem acc_zero (j : Fin 8) (c : Dev nD) (i : S1024x512.Idx) : accV m j 0 c i = prodV m 0 j c i := rfl
theorem acc_one (j : Fin 8) (c : Dev nD) (i : S1024x512.Idx) : accV m j 1 c i = accV m j 0 (up j c) i + prodV m 1 j c i := rfl
theorem acc_two (j : Fin 8) (c : Dev nD) (i : S1024x512.Idx) : accV m j 2 c i = accV m j 1 (up j c) i + prodV m 2 j c i := rfl
theorem acc_three (j : Fin 8) (c : Dev nD) (i : S1024x512.Idx) : accV m j 3 c i = accV m j 2 (up j c) i + prodV m 3 j c i := rfl

/-- At every stage the chunk used is the row block the strip is finished on. -/
theorem row0 : ∀ (j : Fin 8) (c : Dev nD), rowA (up j (up j (up j c))) (kOf 0 j) = c := by decide
theorem row1 : ∀ (j : Fin 8) (c : Dev nD), rowA (up j (up j c)) (kOf 1 j) = c := by decide
theorem row2 : ∀ (j : Fin 8) (c : Dev nD), rowA (up j c) (kOf 2 j) = c := by decide
theorem row3 : ∀ (j : Fin 8) (c : Dev nD), rowA c (kOf 3 j) = c := by decide
/-- A strip passes through every device. -/
theorem tour : ∀ (j : Fin 8) (c : Dev nD), (Finset.univ : Finset (Dev nD)).val = ↑[up j (up j (up j c)), up j (up j c), up j c, c] := by decide

/-- Row `r` of block `c`, as a row of the whole. -/
def rowB (c : Fin 4) (r : Fin 1024) : Fin 4096 := ⟨1024 * c.val + r.val, by have := c.isLt; have := r.isLt; omega⟩

theorem aIdx_row (d : Dev nD) (k : Fin 4) (c : Fin 4) (h : rowA d k = c) (r : Fin 1024) (l : Fin 2048) : aIdx d k r l = ix2 (rowB c r) l := by
  funext a; apply Fin.ext
  match a with
  | ⟨0, _⟩ => show 1024 * (rowA d k).val + r.val = 1024 * c.val + r.val; rw [h]
  | ⟨1, _⟩ => rfl

/-- Device `d`'s share of an entry. -/
def share (c : Fin 4) (j : Fin 8) (r : Fin 1024) (l : Fin 512) (d : Dev nD) : EReal :=
  ∑ k : Fin 2048, A0 m d (ix2 (rowB c r) k) * B0 m d (ix2 k (colS j l))

theorem prod_share (s : Fin 4) (j : Fin 8) (d : Dev nD) (c : Fin 4) (h : rowA d (kOf s j) = c) (r : Fin 1024) (l : Fin 512) :
    prodV m s j d (ix2 r l) = share m c j r l d := by
  rw [prod_apply]; unfold share
  exact Finset.sum_congr rfl fun k _ => by rw [aIdx_row d _ c h]

theorem acc_apply (j : Fin 8) (c : Dev nD) (r : Fin 1024) (l : Fin 512) :
    accV m j 3 c (ix2 r l) = ∑ d : Dev nD, share m c j r l d := by
  rw [acc_three, acc_two, acc_one, acc_zero, prod_share m 0 j _ c (row0 j c), prod_share m 1 j _ c (row1 j c),
    prod_share m 2 j _ c (row2 j c), prod_share m 3 j _ c (row3 j c)]
  show _ = (Multiset.map (share m c j r l) (Finset.univ : Finset (Dev nD)).val).sum
  rw [tour j c, Multiset.map_coe, Multiset.sum_coe]
  simp only [List.map_cons, List.map_nil, List.sum_cons, List.sum_nil, add_zero, add_assoc]

/-! ## Against the reference -/

open Cert.ReferenceIdeal (S4096x8192 S8192x4096 S4096x4096)

/-- The reference's result as a function of its arguments. -/
def refV (A : FVec Ideal S4096x8192 .f32) (B : FVec Ideal S8192x4096 .f32) : FVec Ideal S4096x4096 .bf16 :=
  truncf .bf16 (Host.dotGeneral Cert.ReferenceIdeal.dot_S4096x8192_S8192x4096_S4096x4096_1_0_0_1_n_n none
    (truncf .bf16 A Cert.ReferenceIdeal.Facts₀.bitsLt_bf16_f32) (truncf .bf16 B Cert.ReferenceIdeal.Facts₀.bitsLt_bf16_f32))
    Cert.ReferenceIdeal.Facts₀.bitsLt_bf16_f32

theorem ref_dims : Cert.ReferenceIdeal.dot_S4096x8192_S8192x4096_S4096x4096_1_0_0_1_n_n = DotDims.plain 4096 8192 4096 := rfl

theorem ref_apply (A : FVec Ideal S4096x8192 .f32) (B : FVec Ideal S8192x4096 .f32) (r c : Fin 4096) :
    refV A B (ix2 r c) = ∑ d : Fin 4, ∑ k : Fin 2048, (A (ix2 r (at4 d k)) : EReal) * B (ix2 (at4 d k) c) := by
  unfold refV Host.dotGeneral
  rw [ref_dims]
  refine (dot_plain (φ₁ := .bf16) (φ₂ := .bf16) none _ _ _ r c).trans ?_
  exact sum_blocks fun x => (A (ix2 r x) : EReal) * B (ix2 x c)

/-- How the arrays are cut. -/
theorem tilesA : Layout.Tiles ⟨2, ![4096, 2048]⟩ ⟨2, ![4096, 8192]⟩ 1 4 := by decide
theorem tilesB : Layout.Tiles ⟨2, ![2048, 4096]⟩ ⟨2, ![8192, 4096]⟩ 0 4 := by decide
theorem tilesO : Layout.Tiles ⟨2, ![1024, 4096]⟩ ⟨2, ![4096, 4096]⟩ 0 4 := by decide

variable (A : FVec Ideal S4096x8192 .f32) (B : FVec Ideal S8192x4096 .f32)
  (hA : ∀ c : Dev nD, A0 m c = Layout.block ⟨2, ![4096, 2048]⟩ ⟨2, ![4096, 8192]⟩ 1 4 c A tilesA)
  (hB : ∀ c : Dev nD, B0 m c = Layout.block ⟨2, ![2048, 4096]⟩ ⟨2, ![8192, 4096]⟩ 0 4 c B tilesB)

include hA in
theorem A0_apply (d : Dev nD) (r : Fin 4096) (k : Fin 2048) : A0 m d (ix2 r k) = A (ix2 r (at4 d k)) := by
  rw [hA d, Layout.block_apply]
  refine congrArg A ?_
  funext a; apply Fin.ext
  match a with
  | ⟨0, _⟩ => rfl
  | ⟨1, _⟩ => rfl
include hB in
theorem B0_apply (d : Dev nD) (k : Fin 2048) (l : Fin 4096) : B0 m d (ix2 k l) = B (ix2 (at4 d k) l) := by
  rw [hB d, Layout.block_apply]
  refine congrArg B ?_
  funext a; apply Fin.ext
  match a with
  | ⟨0, _⟩ => rfl
  | ⟨1, _⟩ => rfl

include hA hB in
/-- An entry of a finished strip is the reference's entry of the device's block of rows. -/
theorem acc_ref (j : Fin 8) (c : Dev nD) (r : Fin 1024) (l : Fin 512) :
    accV m j 3 c (ix2 r l) = refV A B (ix2 (rowB c r) (colS j l)) := by
  rw [acc_apply, ref_apply]
  refine Finset.sum_congr rfl fun d _ => ?_
  unfold share
  exact Finset.sum_congr rfl fun k _ => by rw [A0_apply m A hA, B0_apply m B hB]

include hA hB in
/-- The array whose strips are the accumulated values is the device's block of the reference's result. -/
theorem out_ref (c : Dev nD) (g : S1024x4096.Idx → Elt Ideal .bf16) (h : ∀ j, (oS j).view.read (Elt Ideal) g = accV m j 3 c) :
    g = Layout.block ⟨2, ![1024, 4096]⟩ ⟨2, ![4096, 4096]⟩ 0 4 c (refV A B) tilesO := by
  funext i
  have l0 : (i 0).val < 1024 := (i 0).isLt
  have l1 : (i 1).val < 4096 := (i 1).isLt
  have e := congrFun (h ⟨(i 1).val / 512, by omega⟩) (ix2 (⟨(i 0).val, l0⟩ : Fin 1024) (⟨(i 1).val % 512, Nat.mod_lt _ (by decide)⟩ : Fin 512))
  rw [acc_ref m A B hA hB] at e
  have e1 : (oS ⟨(i 1).val / 512, by omega⟩).view.read (Elt Ideal) g (ix2 (⟨(i 0).val, l0⟩ : Fin 1024) (⟨(i 1).val % 512, Nat.mod_lt _ (by decide)⟩ : Fin 512)) = g i := by
    show g _ = g i
    refine congrArg g ?_
    funext a; apply Fin.ext
    match a with
    | ⟨0, _⟩ => show 0 + 1 * (i 0).val = (i 0).val; omega
    | ⟨1, _⟩ => show 512 * ((i 1).val / 512) + 1 * ((i 1).val % 512) = (i 1).val; omega
  rw [← e1, e, Layout.block_apply]
  refine congrArg (refV A B) ?_
  funext a; apply Fin.ext
  match a with
  | ⟨0, _⟩ => show 1024 * c.val + (i 0).val = c.val * 1024 + (i 0).val; omega
  | ⟨1, _⟩ => show 512 * ((i 1).val / 512) + (i 1).val % 512 = (i 1).val; omega

end Cert.Value
-- ==== Proof.lean ====
/- The proof of the certificate's claim: the kernel and its idealization run with their arguments unchanged and every
   counter at zero (`Proof/Kernel/Run.lean`, `Proof/KernelIdeal/Run.lean`), so does the reference, and the
   idealization computes the reference's value (`Proof/Value.lean`). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value
public import Idealize.ShloMosaic.Lib.Quiescent

@[expose] public section

set_option maxRecDepth 16384

noncomputable section

namespace Cert.Proof

open Idealize.ShloMosaic Idealize.SL.Sem

/-- The kernel runs, leaves its arguments as they were and every counter at zero. -/
theorem kernel_runs : Cert.quiescent_Kernel := by
  intro m g _
  exact (θ_run Cert.Kernel.defs _ _).mono (fun _ h => ⟨fun c => ⟨(h.1 c).1, (h.1 c).2.1⟩, h.2⟩) (Cert.KernelProof.run_main (F := Bits) m g)

/-- So does its idealization. -/
theorem ideal_runs : Cert.quiescent_KernelIdeal := by
  intro m g _
  exact (θ_run Cert.KernelIdeal.defs _ _).mono (fun _ h => ⟨fun c => ⟨(h.1 c).1, (h.1 c).2.1⟩, h.2⟩) (Cert.KernelIdealProof.run_main (F := Ideal) m g)

/-- So does the reference, which has no counter. -/
theorem reference_runs : Cert.quiescent_ReferenceIdeal := by
  intro m g _
  exact (θ_run Cert.ReferenceIdeal.defs _ _).mono (fun r h => ⟨fun c => (h c).2, sem_eq_zero_of_no_sems rfl r.2⟩)
    (Cert.ReferenceIdeal.Value.run (F := Ideal) m g)

/-- The idealization computes, on each device, its block of rows of the reference's result. -/
theorem same_value : Cert.algebraic_KernelIdeal_ReferenceIdeal := by
  intro m g m' g' _ hm
  refine ⟨Cert.Value.refV (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun r h c => ⟨Cert.Value.out_ref m _ _ (fun c => (hm c).1) (fun c => (hm c).2) c _ (h.1 c).2.2, (h.1 c).1, (h.1 c).2.1⟩)
      (Cert.KernelIdealProof.run_main (F := Ideal) m g)
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  kernel_runs, ideal_runs, reference_runs, trivial, same_value⟩

end Cert.Proof

end
